-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v15)) (v2 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_v21) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v109) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x32x32x32 : Shape := ⟨4, ![8, 32, 32, 32]⟩
abbrev S8193x32 : Shape := ⟨2, ![8193, 32]⟩
abbrev S8192x32 : Shape := ⟨2, ![8192, 32]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S4x8192x32 : Shape := ⟨3, ![4, 8192, 32]⟩
abbrev S8192x4 : Shape := ⟨2, ![8192, 4]⟩
abbrev S64x1x128 : Shape := ⟨3, ![64, 1, 128]⟩
abbrev S128x32 : Shape := ⟨2, ![128, 32]⟩
abbrev S128x1 : Shape := ⟨2, ![128, 1]⟩
abbrev S4x128x32 : Shape := ⟨3, ![4, 128, 32]⟩
abbrev S128x4 : Shape := ⟨2, ![128, 4]⟩
abbrev S1x1x128 : Shape := ⟨3, ![1, 1, 128]⟩
abbrev S1x2048 : Shape := ⟨2, ![1, 2048]⟩
abbrev S1x128 : Shape := ⟨2, ![1, 128]⟩
abbrev S2048x32 : Shape := ⟨2, ![2048, 32]⟩
abbrev S128x2048 : Shape := ⟨2, ![128, 2048]⟩
abbrev S128 : Shape := ⟨1, ![128]⟩
abbrev S1x128x32 : Shape := ⟨3, ![1, 128, 32]⟩
abbrev S1 : Shape := ⟨1, ![1]⟩
abbrev S1x1x1 : Shape := ⟨3, ![1, 1, 1]⟩
abbrev S64x1x4 : Shape := ⟨3, ![64, 1, 4]⟩
abbrev S64x4 : Shape := ⟨2, ![64, 4]⟩
abbrev S4 : Shape := ⟨1, ![4]⟩
abbrev S1x8192x32 : Shape := ⟨3, ![1, 8192, 32]⟩
abbrev S8x32x32x4 : Shape := ⟨4, ![8, 32, 32, 4]⟩

abbrev nBuf : Space → Nat
  | .hbm => 32
  | .vmem => 12
  | .smem => 0
  | _ => 0

abbrev bufTy : (tb : Table) → Fin (tcTables nBuf tb) → BufTy
  | .hbm, ⟨0, _⟩ => ⟨S8x32x32x32, .f32⟩
  | .hbm, ⟨1, _⟩ => ⟨S8193x32, .f32⟩
  | .hbm, ⟨2, _⟩ => ⟨S8192x32, .f32⟩
  | .hbm, ⟨3, _⟩ => ⟨S8192x32, .f32⟩
  | .hbm, ⟨4, _⟩ => ⟨S8192x32, .f32⟩
  | .hbm, ⟨5, _⟩ => ⟨S_, .f32⟩
  | .hbm, ⟨6, _⟩ => ⟨S8192, .f32⟩
  | .hbm, ⟨7, _⟩ => ⟨S1x8192, .f32⟩
  | .hbm, ⟨8, _⟩ => ⟨S8192x32, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S4x8192x32, .f32⟩
  | .hbm, ⟨13, _⟩ => ⟨S8192x4, .i32⟩
  | .hbm, ⟨14, _⟩ => ⟨S64x1x128, .f32⟩
  | .hbm, ⟨15, _⟩ => ⟨S64x1x4, .f32⟩
  | .hbm, ⟨16, _⟩ => ⟨S64x4, .f32⟩
  | .hbm, ⟨17, _⟩ => ⟨S_, .f32⟩
  | .hbm, ⟨18, _⟩ => ⟨S4, .f32⟩
  | .hbm, ⟨19, _⟩ => ⟨S_, .f32⟩
  | .hbm, ⟨20, _⟩ => ⟨S4, .f32⟩
  | .hbm, ⟨21, _⟩ => ⟨S4, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1x8192x32, .f32⟩
  | .hbm, ⟨27, _⟩ => ⟨S8192x32, .f32⟩
  | .hbm, ⟨28, _⟩ => ⟨S8x32x32x32, .f32⟩
  | .hbm, ⟨29, _⟩ => ⟨S8x32x32x32, .f32⟩
  | .hbm, ⟨30, _⟩ => ⟨S8x32x32x32, .f32⟩
  | .hbm, ⟨31, _⟩ => ⟨S8x32x32x4, .i32⟩
  | .local _ .vmem, ⟨0, _⟩ => ⟨S128x32, .f32⟩
  | .local _ .vmem, ⟨1, _⟩ => ⟨S128x32, .f32⟩
  | .local _ .vmem, ⟨2, _⟩ => ⟨S8192x32, .f32⟩
  | .local _ .vmem, ⟨3, _⟩ => ⟨S1x8192, .f32⟩
  | .local _ .vmem, ⟨4, _⟩ => ⟨S128x1, .f32⟩
  | .local _ .vmem, ⟨5, _⟩ => ⟨S128x1, .f32⟩
  | .local _ .vmem, ⟨6, _⟩ => ⟨S4x128x32, .f32⟩
  | .local _ .vmem, ⟨7, _⟩ => ⟨S4x128x32, .f32⟩
  | .local _ .vmem, ⟨8, _⟩ => ⟨S128x4, .i32⟩
  | .local _ .vmem, ⟨9, _⟩ => ⟨S128x4, .i32⟩
  | .local _ .vmem, ⟨10, _⟩ => ⟨S1x1x128, .f32⟩
  | .local _ .vmem, ⟨11, _⟩ => ⟨S1x1x128, .f32⟩
  | _, _ => ⟨S8x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8x32x32x32 : Shape := ⟨4, ![8, 32, 32, 32]⟩
abbrev S8193x32 : Shape := ⟨2, ![8193, 32]⟩
abbrev S8192x32 : Shape := ⟨2, ![8192, 32]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S32x8192 : Shape := ⟨2, ![32, 8192]⟩
abbrev S1 : Shape := ⟨1, ![1]⟩
abbrev S1x1 : Shape := ⟨2, ![1, 1]⟩
abbrev S8x32x32x1 : Shape := ⟨4, ![8, 32, 32, 1]⟩
abbrev S8x32x32x4 : Shape := ⟨4, ![8, 32, 32, 4]⟩
abbrev S4 : Shape := ⟨1, ![4]⟩

abbrev nBuf : Space → Nat
  | .hbm => 241
  | .vmem => 0
  | .smem => 0
  | _ => 0

abbrev hbmTy0_0 (i : Nat) : BufTy := match i % 128 with
  | 0 => ⟨S8x32x32x32, .f32⟩
  | 1 => ⟨S8193x32, .f32⟩
  | 2 => ⟨S8192x32, .f32⟩
  | 3 => ⟨S_, .f32⟩
  | 4 => ⟨S8x32x32x32, .f32⟩
  | 5 => ⟨S8192x32, .f32⟩
  | 6 => ⟨S8192x32, .f32⟩
  | 7 => ⟨S_, .f32⟩
  | 8 => ⟨S8192, .f32⟩
  | 9 => ⟨S8192x1, .f32⟩
  | 10 => ⟨S8192x32, .f32⟩
  | 11 => ⟨S_, .f32⟩
  | 12 => ⟨S8192, .f32⟩
  | 13 => ⟨S1x8192, .f32⟩
  | 14 => ⟨S8192x8192, .f32⟩
  | 15 => ⟨S8192x8192, .f32⟩
  | 16 => ⟨S8192x8192, .f32⟩
  | 17 => ⟨S32x8192, .f32⟩
  | 18 => ⟨S8192x8192, .f32⟩
  | 19 => ⟨S_, .f32⟩
  | 20 => ⟨S8192x8192, .f32⟩
  | 21 => ⟨S8192x8192, .f32⟩
  | 22 => ⟨S8192x8192, .f32⟩
  | 23 => ⟨S8192x8192, .i32⟩
  | 24 => ⟨S_, .f32⟩
  | 25 => ⟨S_, .i32⟩
  | 26 => ⟨S8192, .f32⟩
  | 27 => ⟨S8192, .i32⟩
  | 28 => ⟨S_, .i32⟩
  | 29 => ⟨S8192, .i32⟩
  | 30 => ⟨S8192, .i1⟩
  | 31 => ⟨S_, .i32⟩
  | 32 => ⟨S8192, .i32⟩
  | 33 => ⟨S8192, .i32⟩
  | 34 => ⟨S8192, .i32⟩
  | 35 => ⟨S8192x1, .i32⟩
  | 36 => ⟨S1, .i32⟩
  | 37 => ⟨S_, .i32⟩
  | 38 => ⟨S8192x1, .i32⟩
  | 39 => ⟨S8192x1, .i1⟩
  | 40 => ⟨S1x1, .i32⟩
  | 41 => ⟨S8192x1, .i32⟩
  | 42 => ⟨S8192x1, .i1⟩
  | 43 => ⟨S8192x1, .i1⟩
  | 44 => ⟨S_, .i1⟩
  | 45 => ⟨S8192, .i1⟩
  | 46 => ⟨S8192x32, .f32⟩
  | 47 => ⟨S8192x32, .i1⟩
  | 48 => ⟨S_, .f32⟩
  | 49 => ⟨S8192x32, .f32⟩
  | 50 => ⟨S8192x32, .f32⟩
  | 51 => ⟨S8x32x32x32, .f32⟩
  | 52 => ⟨S8x32x32x32, .f32⟩
  | 53 => ⟨S8x32x32x32, .f32⟩
  | 54 => ⟨S8x32x32x1, .i32⟩
  | 55 => ⟨S8192x32, .f32⟩
  | 56 => ⟨S8192x32, .f32⟩
  | 57 => ⟨S_, .f32⟩
  | 58 => ⟨S8192, .f32⟩
  | 59 => ⟨S8192x1, .f32⟩
  | 60 => ⟨S8192x32, .f32⟩
  | 61 => ⟨S_, .f32⟩
  | 62 => ⟨S8192, .f32⟩
  | 63 => ⟨S1x8192, .f32⟩
  | 64 => ⟨S8192x8192, .f32⟩
  | 65 => ⟨S8192x8192, .f32⟩
  | 66 => ⟨S8192x8192, .f32⟩
  | 67 => ⟨S32x8192, .f32⟩
  | 68 => ⟨S8192x8192, .f32⟩
  | 69 => ⟨S_, .f32⟩
  | 70 => ⟨S8192x8192, .f32⟩
  | 71 => ⟨S8192x8192, .f32⟩
  | 72 => ⟨S8192x8192, .f32⟩
  | 73 => ⟨S8192x8192, .i32⟩
  | 74 => ⟨S_, .f32⟩
  | 75 => ⟨S_, .i32⟩
  | 76 => ⟨S8192, .f32⟩
  | 77 => ⟨S8192, .i32⟩
  | 78 => ⟨S_, .i32⟩
  | 79 => ⟨S8192, .i32⟩
  | 80 => ⟨S8192, .i1⟩
  | 81 => ⟨S_, .i32⟩
  | 82 => ⟨S8192, .i32⟩
  | 83 => ⟨S8192, .i32⟩
  | 84 => ⟨S8192, .i32⟩
  | 85 => ⟨S8192x1, .i32⟩
  | 86 => ⟨S1, .i32⟩
  | 87 => ⟨S_, .i32⟩
  | 88 => ⟨S8192x1, .i32⟩
  | 89 => ⟨S8192x1, .i1⟩
  | 90 => ⟨S1x1, .i32⟩
  | 91 => ⟨S8192x1, .i32⟩
  | 92 => ⟨S8192x1, .i1⟩
  | 93 => ⟨S8192x1, .i1⟩
  | 94 => ⟨S_, .i1⟩
  | 95 => ⟨S8192, .i1⟩
  | 96 => ⟨S8192x32, .f32⟩
  | 97 => ⟨S8192x32, .i1⟩
  | 98 => ⟨S_, .f32⟩
  | 99 => ⟨S8192x32, .f32⟩
  | 100 => ⟨S8192x32, .f32⟩
  | 101 => ⟨S8x32x32x32, .f32⟩
  | 102 => ⟨S8x32x32x32, .f32⟩
  | 103 => ⟨S8x32x32x32, .f32⟩
  | 104 => ⟨S8x32x32x1, .i32⟩
  | 105 => ⟨S8192x32, .f32⟩
  | 106 => ⟨S8192x32, .f32⟩
  | 107 => ⟨S_, .f32⟩
  | 108 => ⟨S8192, .f32⟩
  | 109 => ⟨S8192x1, .f32⟩
  | 110 => ⟨S8192x32, .f32⟩
  | 111 => ⟨S_, .f32⟩
  | 112 => ⟨S8192, .f32⟩
  | 113 => ⟨S1x8192, .f32⟩
  | 114 => ⟨S8192x8192, .f32⟩
  | 115 => ⟨S8192x8192, .f32⟩
  | 116 => ⟨S8192x8192, .f32⟩
  | 117 => ⟨S32x8192, .f32⟩
  | 118 => ⟨S8192x8192, .f32⟩
  | 119 => ⟨S_, .f32⟩
  | 120 => ⟨S8192x8192, .f32⟩
  | 121 => ⟨S8192x8192, .f32⟩
  | 122 => ⟨S8192x8192, .f32⟩
  | 123 => ⟨S8192x8192, .i32⟩
  | 124 => ⟨S_, .f32⟩
  | 125 => ⟨S_, .i32⟩
  | 126 => ⟨S8192, .f32⟩
  | 127 => ⟨S8192, .i32⟩
  | _ => ⟨S8x32x32x32, .f32⟩

abbrev hbmTy0_1 (i : Nat) : BufTy := match i % 128 with
  | 0 => ⟨S_, .i32⟩
  | 1 => ⟨S8192, .i32⟩
  | 2 => ⟨S8192, .i1⟩
  | 3 => ⟨S_, .i32⟩
  | 4 => ⟨S8192, .i32⟩
  | 5 => ⟨S8192, .i32⟩
  | 6 => ⟨S8192, .i32⟩
  | 7 => ⟨S8192x1, .i32⟩
  | 8 => ⟨S1, .i32⟩
  | 9 => ⟨S_, .i32⟩
  | 10 => ⟨S8192x1, .i32⟩
  | 11 => ⟨S8192x1, .i1⟩
  | 12 => ⟨S1x1, .i32⟩
  | 13 => ⟨S8192x1, .i32⟩
  | 14 => ⟨S8192x1, .i1⟩
  | 15 => ⟨S8192x1, .i1⟩
  | 16 => ⟨S_, .i1⟩
  | 17 => ⟨S8192, .i1⟩
  | 18 => ⟨S8192x32, .f32⟩
  | 19 => ⟨S8192x32, .i1⟩
  | 20 => ⟨S_, .f32⟩
  | 21 => ⟨S8192x32, .f32⟩
  | 22 => ⟨S8192x32, .f32⟩
  | 23 => ⟨S8x32x32x32, .f32⟩
  | 24 => ⟨S8x32x32x32, .f32⟩
  | 25 => ⟨S8x32x32x32, .f32⟩
  | 26 => ⟨S8x32x32x1, .i32⟩
  | 27 => ⟨S8192x32, .f32⟩
  | 28 => ⟨S8192x32, .f32⟩
  | 29 => ⟨S_, .f32⟩
  | 30 => ⟨S8192, .f32⟩
  | 31 => ⟨S8192x1, .f32⟩
  | 32 => ⟨S8192x32, .f32⟩
  | 33 => ⟨S_, .f32⟩
  | 34 => ⟨S8192, .f32⟩
  | 35 => ⟨S1x8192, .f32⟩
  | 36 => ⟨S8192x8192, .f32⟩
  | 37 => ⟨S8192x8192, .f32⟩
  | 38 => ⟨S8192x8192, .f32⟩
  | 39 => ⟨S32x8192, .f32⟩
  | 40 => ⟨S8192x8192, .f32⟩
  | 41 => ⟨S_, .f32⟩
  | 42 => ⟨S8192x8192, .f32⟩
  | 43 => ⟨S8192x8192, .f32⟩
  | 44 => ⟨S8192x8192, .f32⟩
  | 45 => ⟨S8192x8192, .i32⟩
  | 46 => ⟨S_, .f32⟩
  | 47 => ⟨S_, .i32⟩
  | 48 => ⟨S8192, .f32⟩
  | 49 => ⟨S8192, .i32⟩
  | 50 => ⟨S_, .i32⟩
  | 51 => ⟨S8192, .i32⟩
  | 52 => ⟨S8192, .i1⟩
  | 53 => ⟨S_, .i32⟩
  | 54 => ⟨S8192, .i32⟩
  | 55 => ⟨S8192, .i32⟩
  | 56 => ⟨S8192, .i32⟩
  | 57 => ⟨S8192x1, .i32⟩
  | 58 => ⟨S1, .i32⟩
  | 59 => ⟨S_, .i32⟩
  | 60 => ⟨S8192x1, .i32⟩
  | 61 => ⟨S8192x1, .i1⟩
  | 62 => ⟨S1x1, .i32⟩
  | 63 => ⟨S8192x1, .i32⟩
  | 64 => ⟨S8192x1, .i1⟩
  | 65 => ⟨S8192x1, .i1⟩
  | 66 => ⟨S_, .i1⟩
  | 67 => ⟨S8192, .i1⟩
  | 68 => ⟨S8192x32, .f32⟩
  | 69 => ⟨S8192x32, .i1⟩
  | 70 => ⟨S_, .f32⟩
  | 71 => ⟨S8192x32, .f32⟩
  | 72 => ⟨S8192x32, .f32⟩
  | 73 => ⟨S8x32x32x32, .f32⟩
  | 74 => ⟨S8x32x32x32, .f32⟩
  | 75 => ⟨S8x32x32x32, .f32⟩
  | 76 => ⟨S8x32x32x1, .i32⟩
  | 77 => ⟨S8x32x32x4, .i32⟩
  | 78 => ⟨S8x32x32x32, .f32⟩
  | 79 => ⟨S8x32x32x32, .f32⟩
  | 80 => ⟨S_, .f32⟩
  | 81 => ⟨S_, .f32⟩
  | 82 => ⟨S_, .f32⟩
  | 83 => ⟨S_, .f32⟩
  | 84 => ⟨S8x32x32x32, .f32⟩
  | 85 => ⟨S8x32x32x32, .f32⟩
  | 86 => ⟨S_, .f32⟩
  | 87 => ⟨S_, .f32⟩
  | 88 => ⟨S_, .f32⟩
  | 89 => ⟨S_, .f32⟩
  | 90 => ⟨S8x32x32x32, .f32⟩
  | 91 => ⟨S8x32x32x32, .f32⟩
  | 92 => ⟨S_, .f32⟩
  | 93 => ⟨S_, .f32⟩
  | 94 => ⟨S_, .f32⟩
  | 95 => ⟨S_, .f32⟩
  | 96 => ⟨S8x32x32x32, .f32⟩
  | 97 => ⟨S8x32x32x32, .f32⟩
  | 98 => ⟨S_, .f32⟩
  | 99 => ⟨S_, .f32⟩
  | 100 => ⟨S_, .f32⟩
  | 101 => ⟨S_, .f32⟩
  | 102 => ⟨S1, .f32⟩
  | 103 => ⟨S1, .f32⟩
  | 104 => ⟨S1, .f32⟩
  | 105 => ⟨S1, .f32⟩
  | 106 => ⟨S4, .f32⟩
  | 107 => ⟨S_, .f32⟩
  | 108 => ⟨S_, .f32⟩
  | 109 => ⟨S_, .f32⟩
  | 110 => ⟨S_, .f32⟩
  | 111 => ⟨S8x32x32x32, .f32⟩
  | 112 => ⟨S8x32x32x32, .f32⟩
  | _ => ⟨S8x32x32x32, .f32⟩

abbrev hbmTy (i : Nat) : BufTy := match i / 128 with
  | 0 => hbmTy0_0 i
  | 1 => hbmTy0_1 i
  | _ => ⟨S8x32x32x32, .f32⟩

abbrev bufTy : (tb : Table) → Fin (tcTables nBuf tb) → BufTy
  | .hbm, ⟨i, _⟩ => hbmTy i
  | _, _ => ⟨S8x32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_cst : Ref sig .tc := ⟨.hbm, 24, rfl⟩
abbrev main_call0_c : Ref sig .tc := ⟨.hbm, 25, rfl⟩
abbrev main_call0_v1_0 : Ref sig .tc := ⟨.hbm, 26, rfl⟩
abbrev main_v17 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_cst_3 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_cst_4 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_cst_5 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_call2_v0 : Ref sig .tc := ⟨.hbm, 73, rfl⟩
abbrev main_call2_cst : Ref sig .tc := ⟨.hbm, 74, rfl⟩
abbrev main_call2_c : Ref sig .tc := ⟨.hbm, 75, rfl⟩
abbrev main_call2_v1_0 : Ref sig .tc := ⟨.hbm, 76, rfl⟩
abbrev main_v38 : Ref sig .tc := ⟨.hbm, 77, rfl⟩
abbrev main_call3_c : Ref sig .tc := ⟨.hbm, 78, rfl⟩
abbrev main_call3_v0 : Ref sig .tc := ⟨.hbm, 79, rfl⟩
abbrev main_call3_v1 : Ref sig .tc := ⟨.hbm, 80, rfl⟩
abbrev main_call3_c_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_v5 : Ref sig .tc := ⟨.hbm, 85, rfl⟩
abbrev main_call3_c_1 : Ref sig .tc := ⟨.hbm, 86, rfl⟩
abbrev main_call3_c_2 : Ref sig .tc := ⟨.hbm, 87, rfl⟩
abbrev main_call3_v6 : Ref sig .tc := ⟨.hbm, 88, rfl⟩
abbrev main_call3_v7 : Ref sig .tc := ⟨.hbm, 89, rfl⟩
abbrev main_call3_v8 : Ref sig .tc := ⟨.hbm, 90, rfl⟩
abbrev main_call3_v9 : Ref sig .tc := ⟨.hbm, 91, rfl⟩
abbrev main_call3_v10 : Ref sig .tc := ⟨.hbm, 92, rfl⟩
abbrev main_call3_v11 : Ref sig .tc := ⟨.hbm, 93, rfl⟩
abbrev main_call3_c_3 : Ref sig .tc := ⟨.hbm, 94, rfl⟩
abbrev main_call3_v12 : Ref sig .tc := ⟨.hbm, 95, rfl⟩
abbrev main_call3_v13 : Ref sig .tc := ⟨.hbm, 96, rfl⟩
abbrev main_call3_v14 : Ref sig .tc := ⟨.hbm, 97, rfl⟩
abbrev main_call3_cst : Ref sig .tc := ⟨.hbm, 98, rfl⟩
abbrev main_call3_v15 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_cst_6 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_cst_7 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_cst_8 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_call4_v0 : Ref sig .tc := ⟨.hbm, 123, rfl⟩
abbrev main_call4_cst : Ref sig .tc := ⟨.hbm, 124, rfl⟩
abbrev main_call4_c : Ref sig .tc := ⟨.hbm, 125, rfl⟩
abbrev main_call4_v1_0 : Ref sig .tc := ⟨.hbm, 126, rfl⟩
abbrev main_v59 : Ref sig .tc := ⟨.hbm, 127, rfl⟩
abbrev main_call5_c : Ref sig .tc := ⟨.hbm, 128, rfl⟩
abbrev main_call5_v0 : Ref sig .tc := ⟨.hbm, 129, rfl⟩
abbrev main_call5_v1 : Ref sig .tc := ⟨.hbm, 130, rfl⟩
abbrev main_call5_c_0 : Ref sig .tc := ⟨.hbm, 131, rfl⟩
abbrev main_call5_v2 : Ref sig .tc := ⟨.hbm, 132, rfl⟩
abbrev main_call5_v3 : Ref sig .tc := ⟨.hbm, 133, rfl⟩
abbrev main_call5_v4 : Ref sig .tc := ⟨.hbm, 134, rfl⟩
abbrev main_call5_v5 : Ref sig .tc := ⟨.hbm, 135, rfl⟩
abbrev main_call5_c_1 : Ref sig .tc := ⟨.hbm, 136, rfl⟩
abbrev main_call5_c_2 : Ref sig .tc := ⟨.hbm, 137, rfl⟩
abbrev main_call5_v6 : Ref sig .tc := ⟨.hbm, 138, rfl⟩
abbrev main_call5_v7 : Ref sig .tc := ⟨.hbm, 139, rfl⟩
abbrev main_call5_v8 : Ref sig .tc := ⟨.hbm, 140, rfl⟩
abbrev main_call5_v9 : Ref sig .tc := ⟨.hbm, 141, rfl⟩
abbrev main_call5_v10 : Ref sig .tc := ⟨.hbm, 142, rfl⟩
abbrev main_call5_v11 : Ref sig .tc := ⟨.hbm, 143, rfl⟩
abbrev main_call5_c_3 : Ref sig .tc := ⟨.hbm, 144, rfl⟩
abbrev main_call5_v12 : Ref sig .tc := ⟨.hbm, 145, rfl⟩
abbrev main_call5_v13 : Ref sig .tc := ⟨.hbm, 146, rfl⟩
abbrev main_call5_v14 : Ref sig .tc := ⟨.hbm, 147, rfl⟩
abbrev main_call5_cst : Ref sig .tc := ⟨.hbm, 148, rfl⟩
abbrev main_call5_v15 : Ref sig .tc := ⟨.hbm, 149, rfl⟩
abbrev main_v60 : Ref sig .tc := ⟨.hbm, 150, rfl⟩
abbrev main_v61 : Ref sig .tc := ⟨.hbm, 151, rfl⟩
abbrev main_v62 : Ref sig .tc := ⟨.hbm, 152, rfl⟩
abbrev main_v63 : Ref sig .tc := ⟨.hbm, 153, rfl⟩
abbrev main_v64 : Ref sig .tc := ⟨.hbm, 154, rfl⟩
abbrev main_v65 : Ref sig .tc := ⟨.hbm, 155, rfl⟩
abbrev main_v66 : Ref sig .tc := ⟨.hbm, 156, rfl⟩
abbrev main_cst_9 : Ref sig .tc := ⟨.hbm, 157, rfl⟩
abbrev main_v67 : Ref sig .tc := ⟨.hbm, 158, rfl⟩
abbrev main_v68 : Ref sig .tc := ⟨.hbm, 159, rfl⟩
abbrev main_v69 : Ref sig .tc := ⟨.hbm, 160, rfl⟩
abbrev main_cst_10 : Ref sig .tc := ⟨.hbm, 161, rfl⟩
abbrev main_v70 : Ref sig .tc := ⟨.hbm, 162, rfl⟩
abbrev main_v71 : Ref sig .tc := ⟨.hbm, 163, rfl⟩
abbrev main_v72 : Ref sig .tc := ⟨.hbm, 164, rfl⟩
abbrev main_v73 : Ref sig .tc := ⟨.hbm, 165, rfl⟩
abbrev main_v74 : Ref sig .tc := ⟨.hbm, 166, rfl⟩
abbrev main_v75 : Ref sig .tc := ⟨.hbm, 167, rfl⟩
abbrev main_v76 : Ref sig .tc := ⟨.hbm, 168, rfl⟩
abbrev main_cst_11 : Ref sig .tc := ⟨.hbm, 169, rfl⟩
abbrev main_v77 : Ref sig .tc := ⟨.hbm, 170, rfl⟩
abbrev main_v78 : Ref sig .tc := ⟨.hbm, 171, rfl⟩
abbrev main_v79 : Ref sig .tc := ⟨.hbm, 172, rfl⟩
abbrev main_call6_v0 : Ref sig .tc := ⟨.hbm, 173, rfl⟩
abbrev main_call6_cst : Ref sig .tc := ⟨.hbm, 174, rfl⟩
abbrev main_call6_c : Ref sig .tc := ⟨.hbm, 175, rfl⟩
abbrev main_call6_v1_0 : Ref sig .tc := ⟨.hbm, 176, rfl⟩
abbrev main_v80 : Ref sig .tc := ⟨.hbm, 177, rfl⟩
abbrev main_call7_c : Ref sig .tc := ⟨.hbm, 178, rfl⟩
abbrev main_call7_v0 : Ref sig .tc := ⟨.hbm, 179, rfl⟩
abbrev main_call7_v1 : Ref sig .tc := ⟨.hbm, 180, rfl⟩
abbrev main_call7_c_0 : Ref sig .tc := ⟨.hbm, 181, rfl⟩
abbrev main_call7_v2 : Ref sig .tc := ⟨.hbm, 182, rfl⟩
abbrev main_call7_v3 : Ref sig .tc := ⟨.hbm, 183, rfl⟩
abbrev main_call7_v4 : Ref sig .tc := ⟨.hbm, 184, rfl⟩
abbrev main_call7_v5 : Ref sig .tc := ⟨.hbm, 185, rfl⟩
abbrev main_call7_c_1 : Ref sig .tc := ⟨.hbm, 186, rfl⟩
abbrev main_call7_c_2 : Ref sig .tc := ⟨.hbm, 187, rfl⟩
abbrev main_call7_v6 : Ref sig .tc := ⟨.hbm, 188, rfl⟩
abbrev main_call7_v7 : Ref sig .tc := ⟨.hbm, 189, rfl⟩
abbrev main_call7_v8 : Ref sig .tc := ⟨.hbm, 190, rfl⟩
abbrev main_call7_v9 : Ref sig .tc := ⟨.hbm, 191, rfl⟩
abbrev main_call7_v10 : Ref sig .tc := ⟨.hbm, 192, rfl⟩
abbrev main_call7_v11 : Ref sig .tc := ⟨.hbm, 193, rfl⟩
abbrev main_call7_c_3 : Ref sig .tc := ⟨.hbm, 194, rfl⟩
abbrev main_call7_v12 : Ref sig .tc := ⟨.hbm, 195, rfl⟩
abbrev main_call7_v13 : Ref sig .tc := ⟨.hbm, 196, rfl⟩
abbrev main_call7_v14 : Ref sig .tc := ⟨.hbm, 197, rfl⟩
abbrev main_call7_cst : Ref sig .tc := ⟨.hbm, 198, rfl⟩
abbrev main_call7_v15 : Ref sig .tc := ⟨.hbm, 199, rfl⟩
abbrev main_v81 : Ref sig .tc := ⟨.hbm, 200, rfl⟩
abbrev main_v82 : Ref sig .tc := ⟨.hbm, 201, rfl⟩
abbrev main_v83 : Ref sig .tc := ⟨.hbm, 202, rfl⟩
abbrev main_v84 : Ref sig .tc := ⟨.hbm, 203, rfl⟩
abbrev main_v85 : Ref sig .tc := ⟨.hbm, 204, rfl⟩
abbrev main_v86 : Ref sig .tc := ⟨.hbm, 205, rfl⟩
abbrev main_v87 : Ref sig .tc := ⟨.hbm, 206, rfl⟩
abbrev main_v88 : Ref sig .tc := ⟨.hbm, 207, rfl⟩
abbrev main_cst_12 : Ref sig .tc := ⟨.hbm, 208, rfl⟩
abbrev main_v89 : Ref sig .tc := ⟨.hbm, 209, rfl⟩
abbrev main_cst_13 : Ref sig .tc := ⟨.hbm, 210, rfl⟩
abbrev main_v90 : Ref sig .tc := ⟨.hbm, 211, rfl⟩
abbrev main_v91 : Ref sig .tc := ⟨.hbm, 212, rfl⟩
abbrev main_v92 : Ref sig .tc := ⟨.hbm, 213, rfl⟩
abbrev main_cst_14 : Ref sig .tc := ⟨.hbm, 214, rfl⟩
abbrev main_v93 : Ref sig .tc := ⟨.hbm, 215, rfl⟩
abbrev main_cst_15 : Ref sig .tc := ⟨.hbm, 216, rfl⟩
abbrev main_v94 : Ref sig .tc := ⟨.hbm, 217, rfl⟩
abbrev main_v95 : Ref sig .tc := ⟨.hbm, 218, rfl⟩
abbrev main_v96 : Ref sig .tc := ⟨.hbm, 219, rfl⟩
abbrev main_cst_16 : Ref sig .tc := ⟨.hbm, 220, rfl⟩
abbrev main_v97 : Ref sig .tc := ⟨.hbm, 221, rfl⟩
abbrev main_cst_17 : Ref sig .tc := ⟨.hbm, 222, rfl⟩
abbrev main_v98 : Ref sig .tc := ⟨.hbm, 223, rfl⟩
abbrev main_v99 : Ref sig .tc := ⟨.hbm, 224, rfl⟩
abbrev main_v100 : Ref sig .tc := ⟨.hbm, 225, rfl⟩
abbrev main_cst_18 : Ref sig .tc := ⟨.hbm, 226, rfl⟩
abbrev main_v101 : Ref sig .tc := ⟨.hbm, 227, rfl⟩
abbrev main_cst_19 : Ref sig .tc := ⟨.hbm, 228, rfl⟩
abbrev main_v102 : Ref sig .tc := ⟨.hbm, 229, rfl⟩
abbrev main_v103 : Ref sig .tc := ⟨.hbm, 230, rfl⟩
abbrev main_v104 : Ref sig .tc := ⟨.hbm, 231, rfl⟩
abbrev main_v105 : Ref sig .tc := ⟨.hbm, 232, rfl⟩
abbrev main_v106 : Ref sig .tc := ⟨.hbm, 233, rfl⟩
abbrev main_v107 : Ref sig .tc := ⟨.hbm, 234, rfl⟩
abbrev main_cst_20 : Ref sig .tc := ⟨.hbm, 235, rfl⟩
abbrev main_v108 : Ref sig .tc := ⟨.hbm, 236, rfl⟩
abbrev main_cst_21 : Ref sig .tc := ⟨.hbm, 237, rfl⟩
abbrev main_v109 : Ref sig .tc := ⟨.hbm, 238, rfl⟩
abbrev main_v110 : Ref sig .tc := ⟨.hbm, 239, rfl⟩
abbrev main_v111 : Ref sig .tc := ⟨.hbm, 240, rfl⟩

abbrev nD : Nat := 1
abbrev τ : Topo := Topo.v7x

variable {F : FTy → Type} [FloatOps F]
-- ==== Proof.Steps.lean ====
/-
  The kernel's values at one grid point, named by what they are: a step scores a row against four blocks of the
  codebook, keeps the least score with its place, reads the chosen rows back by a product with a one-hot matrix, and
  takes them away. Each value the generated frame names is one of these.
-/
module

public import proofs.«01_k».proof.Proof.Gen.KernelIdeal.Frame

@[expose] public section

set_option maxRecDepth 16384

noncomputable section

namespace Cert.KernelIdeal.Steps

open Idealize.ShloMosaic Idealize.ShloMosaic.TcCoe
open Cert.KernelIdeal Cert.KernelIdeal.Gen

variable {F : FTy → Type} [FloatOps F]

/-! ## One step -/

/-- The scores of the rows `z`, whose squares sum to `zz`, against a block of codebook rows `e` whose squares sum to `q`. -/
def scores (z : FVec F S128x32 .f32) (zz : FVec F S128x1 .f32) (e : Vec F S2048x32 .f32) (q : Vec F S1x2048 .f32) :
    FVec F S128x2048 .f32 :=
  subf (addf (broadcastTo S128x2048 zz broadcasts_S128x1_S128x2048)
      (broadcastTo S128x2048 (shapeCast S1x2048 q shapeCasts_S1x2048_S1x2048) broadcasts_S1x2048_S128x2048))
    (mulf (broadcast S128x2048 (Scalar.ofBits .f32 0x40000000#32))
      (matmul dot_S128x32_S2048x32_S128x2048_1_1_0_0_n_n none z (shapeCast S2048x32 e shapeCasts_S2048x32_S2048x32)
        (constant S128x2048 .f32 0x00000000#32)))

/-- The least entry of each row. -/
def rowMin (s : FVec F S128x2048 .f32) : FVec F S128x1 .f32 :=
  shapeCast S128x1 (multiReduction .minimumf [1] S128 s 0x7F800000#32 reduces_S128x2048_S128 (.inl rfl) rfl) shapeCasts_S128_S128x1

/-- The places of a block of codebook rows that starts at `o`. -/
def laneAt (o : BitVec 32) : FVec F S1x2048 .f32 :=
  addf (k0_pay2 (F := F)) (broadcast S1x2048 (Scalar.ofBits .f32 o))

/-- The place of each row's least score within the block that starts at `o`. -/
def place (o : BitVec 32) (s : FVec F S128x2048 .f32) : FVec F S128x1 .f32 :=
  rowMin (select (cmpf .oeq s (broadcastTo S128x2048 (rowMin s) broadcasts_S128x1_S128x2048))
    (broadcastTo S128x2048 (shapeCast S1x2048 (laneAt (F := F) o) shapeCasts_S1x2048_S1x2048) broadcasts_S1x2048_S128x2048)
    (broadcast S128x2048 (Scalar.ofBits .f32 0x46000000#32)))

/-- The running minimum after a block. -/
def stepM (m : FVec F S128x1 .f32) (s : FVec F S128x2048 .f32) : FVec F S128x1 .f32 :=
  select (cmpf .olt (rowMin s) m) (rowMin s) m

/-- The running place after a block. -/
def stepI (o : BitVec 32) (m i : FVec F S128x1 .f32) (s : FVec F S128x2048 .f32) : FVec F S128x1 .f32 :=
  select (cmpf .olt (rowMin s) m) (place o s) i

section Search
variable (z : FVec F S128x32 .f32) (zz : FVec F S128x1 .f32) (x1 : Vec F S8192x32 .f32) (x2 : Vec F S1x8192 .f32)

/-- The scores against the four blocks of the codebook. -/
def s0 : FVec F S128x2048 .f32 := scores z zz (View.ld x1 r0_2) (View.ld x2 r0_3)
def s1 : FVec F S128x2048 .f32 := scores z zz (View.ld x1 r0_4) (View.ld x2 r0_5)
def s2 : FVec F S128x2048 .f32 := scores z zz (View.ld x1 r0_6) (View.ld x2 r0_7)
def s3 : FVec F S128x2048 .f32 := scores z zz (View.ld x1 r0_8) (View.ld x2 r0_9)

/-- Before the first block: infinity, at place zero. -/
def m0 : FVec F S128x1 .f32 := broadcast S128x1 (Scalar.ofBits .f32 0x7F800000#32)
def i0 : FVec F S128x1 .f32 := broadcast S128x1 (Scalar.ofBits .f32 0x00000000#32)
/-- The running minimum after one, two and three blocks. -/
def m1 : FVec F S128x1 .f32 := stepM (m0 (F := F)) (s0 z zz x1 x2)
def m2 : FVec F S128x1 .f32 := stepM (m1 z zz x1 x2) (s1 z zz x1 x2)
def m3 : FVec F S128x1 .f32 := stepM (m2 z zz x1 x2) (s2 z zz x1 x2)
/-- The running place after one, two, three and four blocks. -/
def i1 : FVec F S128x1 .f32 := stepI 0x00000000#32 (m0 (F := F)) (i0 (F := F)) (s0 z zz x1 x2)
def i2 : FVec F S128x1 .f32 := stepI 0x45000000#32 (m1 z zz x1 x2) (i1 z zz x1 x2) (s1 z zz x1 x2)
def i3 : FVec F S128x1 .f32 := stepI 0x45800000#32 (m2 z zz x1 x2) (i2 z zz x1 x2) (s2 z zz x1 x2)
def i4 : FVec F S128x1 .f32 := stepI 0x45C00000#32 (m3 z zz x1 x2) (i3 z zz x1 x2) (s3 z zz x1 x2)

end Search

/-- The rows of the block `e`, which starts at `o`, whose place is `i`: a product with a one-hot matrix. -/
def onehot (o : BitVec 32) (i : FVec F S128x1 .f32) : IVec S128x2048 32 :=
  extui 32 (cmpf .oeq (broadcastTo S128x2048 (laneAt (F := F) o) broadcasts_S1x2048_S128x2048)
    (broadcastTo S128x2048 i broadcasts_S128x1_S128x2048)) natLt_1_32
def hit (o : BitVec 32) (i : FVec F S128x1 .f32) (e : Vec F S2048x32 .f32) : FVec F S128x32 .f32 :=
  matmul dot_S128x2048_S2048x32_S128x32_1_0_0_1_n_n (some .fp32) (sitofp .f32 (onehot o i))
    (shapeCast S2048x32 e shapeCasts_S2048x32_S2048x32) (constant S128x32 .f32 0x00000000#32)

section Rows
variable (i : FVec F S128x1 .f32) (x1 : Vec F S8192x32 .f32)
/-- The hits of the blocks, added up from zero. -/
def q1 : FVec F S128x32 .f32 := addf (broadcast S128x32 (Scalar.ofBits .f32 0x00000000#32)) (hit 0x00000000#32 i (View.ld x1 r0_2))
def q2 : FVec F S128x32 .f32 := addf (q1 i x1) (hit 0x45000000#32 i (View.ld x1 r0_4))
def q3 : FVec F S128x32 .f32 := addf (q2 i x1) (hit 0x45800000#32 i (View.ld x1 r0_6))
def q4 : FVec F S128x32 .f32 := addf (q3 i x1) (hit 0x45C00000#32 i (View.ld x1 r0_8))
end Rows

/-- The sums of the rows' squares. -/
def sumsq (z : FVec F S128x32 .f32) : FVec F S128x1 .f32 :=
  shapeCast S128x1 (multiReduction .add [1] S128 (mulf z z) 0x00000000#32 reduces_S128x32_S128 (.inl rfl) rfl) shapeCasts_S128_S128x1

/-- The sum of a tile's squared errors, put at lane `d`. -/
def tileErr (v : FVec F S128x32 .f32) : F .f32 :=
  extractAt ![0, 0, 0] (shapeCast S1x1x1 (multiReduction .add [1, 2] S1 (shapeCast S1x128x32 (mulf v v)
    shapeCasts_S128x32_S1x128x32) 0x00000000#32 reduces_S1x128x32_S1 (.inl rfl) rfl) shapeCasts_S1_S1x1x1) inpos_S1x1x1_p0_0_0
def putErr (d : BitVec 32) (v : FVec F S128x32 .f32) (l : FVec F S1x128 .f32) : FVec F S1x128 .f32 :=
  select (cmpi .eq (iota .tc S1x128 32 [1] iota_S1x128_d1_w32) (broadcast S1x128 d)) (broadcast S1x128 (tileErr v)) l

/-! ## The four steps -/

section Chain
variable (x0 : Vec F S128x32 .f32) (x1 : Vec F S8192x32 .f32) (x2 : Vec F S1x8192 .f32) (x3 : Vec F S128x1 .f32)

def z0 : FVec F S128x32 .f32 := shapeCast S128x32 (View.ld x0 r0_0) shapeCasts_S128x32_S128x32
def w0 : FVec F S128x1 .f32 := shapeCast S128x1 (View.ld x3 r0_1) shapeCasts_S128x1_S128x1
/-- The places chosen at step 1, the codebook rows there, what is left of the tile after it and the rows' sum so far. -/
def c1 : FVec F S128x1 .f32 := i4 (z0 x0) (w0 x3) x1 x2
def r1 : FVec F S128x32 .f32 := q4 (c1 x0 x1 x2 x3) x1
def z1 : FVec F S128x32 .f32 := subf (z0 x0) (r1 x0 x1 x2 x3)
def a1 : FVec F S128x32 .f32 := addf (broadcast S128x32 (Scalar.ofBits .f32 0x00000000#32)) (r1 x0 x1 x2 x3)
/-- The places chosen at step 2, the codebook rows there, what is left of the tile after it and the rows' sum so far. -/
def c2 : FVec F S128x1 .f32 := i4 (z1 x0 x1 x2 x3) (sumsq (z1 x0 x1 x2 x3)) x1 x2
def r2 : FVec F S128x32 .f32 := q4 (c2 x0 x1 x2 x3) x1
def z2 : FVec F S128x32 .f32 := subf (z1 x0 x1 x2 x3) (r2 x0 x1 x2 x3)
def a2 : FVec F S128x32 .f32 := addf (a1 x0 x1 x2 x3) (r2 x0 x1 x2 x3)
/-- The places chosen at step 3, the codebook rows there, what is left of the tile after it and the rows' sum so far. -/
def c3 : FVec F S128x1 .f32 := i4 (z2 x0 x1 x2 x3) (sumsq (z2 x0 x1 x2 x3)) x1 x2
def r3 : FVec F S128x32 .f32 := q4 (c3 x0 x1 x2 x3) x1
def z3 : FVec F S128x32 .f32 := subf (z2 x0 x1 x2 x3) (r3 x0 x1 x2 x3)
def a3 : FVec F S128x32 .f32 := addf (a2 x0 x1 x2 x3) (r3 x0 x1 x2 x3)
/-- The places chosen at step 4, the codebook rows there, what is left of the tile after it and the rows' sum so far. -/
def c4 : FVec F S128x1 .f32 := i4 (z3 x0 x1 x2 x3) (sumsq (z3 x0 x1 x2 x3)) x1 x2
def r4 : FVec F S128x32 .f32 := q4 (c4 x0 x1 x2 x3) x1
def z4 : FVec F S128x32 .f32 := subf (z3 x0 x1 x2 x3) (r4 x0 x1 x2 x3)
def a4 : FVec F S128x32 .f32 := addf (a3 x0 x1 x2 x3) (r4 x0 x1 x2 x3)

/-- The errors of the four steps, at lanes 0 to 3. -/
def l1 : FVec F S1x128 .f32 := putErr 0#32 (subf (z0 x0) (a1 x0 x1 x2 x3)) (broadcast S1x128 (Scalar.ofBits .f32 0x00000000#32))
def l2 : FVec F S1x128 .f32 := putErr 1#32 (subf (z0 x0) (a2 x0 x1 x2 x3)) (l1 x0 x1 x2 x3)
def l3 : FVec F S1x128 .f32 := putErr 2#32 (subf (z0 x0) (a3 x0 x1 x2 x3)) (l2 x0 x1 x2 x3)
def l4 : FVec F S1x128 .f32 := putErr 3#32 (subf (z0 x0) (a4 x0 x1 x2 x3)) (l3 x0 x1 x2 x3)

/-! ## The generated values are these -/

theorem pay118_eq : k0_pay118 x0 x1 x2 x3 = iota .tc S1x128 32 [1] iota_S1x128_d1_w32 := rfl
theorem pay119_eq : k0_pay119 x0 x1 x2 x3 = z0 x0 := rfl
theorem pay120_eq : k0_pay120 x0 x1 x2 x3 = k0_pay2 (F := F) := rfl
theorem pay121_eq : k0_pay121 x0 x1 x2 x3 = broadcast S128x32 (Scalar.ofBits .f32 0x00000000#32) := rfl
theorem pay122_eq : k0_pay122 x0 x1 x2 x3 = w0 x3 := rfl
theorem pay123_eq : k0_pay123 x0 x1 x2 x3 = m1 (z0 x0) (w0 x3) x1 x2 := rfl
theorem pay124_eq : k0_pay124 x0 x1 x2 x3 = shapeCast S2048x32 (View.ld x1 r0_4) shapeCasts_S2048x32_S2048x32 := rfl
theorem pay125_eq : k0_pay125 x0 x1 x2 x3 = i2 (z0 x0) (w0 x3) x1 x2 := by
  unfold k0_pay125; rw [pay119_eq, pay120_eq, pay122_eq, pay123_eq, pay124_eq]; rfl
theorem pay126_eq : k0_pay126 x0 x1 x2 x3 = m2 (z0 x0) (w0 x3) x1 x2 := by
  unfold k0_pay126; rw [pay119_eq, pay122_eq, pay123_eq, pay124_eq]; rfl
theorem pay127_eq : k0_pay127 x0 x1 x2 x3 = rowMin (s2 (z0 x0) (w0 x3) x1 x2) := by
  unfold k0_pay127; rw [pay119_eq, pay122_eq]; rfl
theorem pay128_eq : k0_pay128 x0 x1 x2 x3 = cmpf .oeq (s2 (z0 x0) (w0 x3) x1 x2) (broadcastTo S128x2048 (rowMin (s2 (z0 x0) (w0 x3) x1 x2)) broadcasts_S128x1_S128x2048) := by
  unfold k0_pay128; rw [pay119_eq, pay122_eq]; rfl
theorem pay129_eq : k0_pay129 x0 x1 x2 x3 = broadcastTo S128x2048 (shapeCast S1x2048 (laneAt (F := F) 0x45800000#32) shapeCasts_S1x2048_S1x2048) broadcasts_S1x2048_S128x2048 := by
  unfold k0_pay129; rw [pay120_eq]; rfl
theorem pay130_eq : k0_pay130 x0 x1 x2 x3 = c1 x0 x1 x2 x3 := by
  unfold k0_pay130; rw [pay119_eq, pay120_eq, pay122_eq, pay125_eq, pay126_eq, pay127_eq, pay128_eq, pay129_eq]; rfl
theorem pay131_eq : k0_pay131 x0 x1 x2 x3 = q1 (c1 x0 x1 x2 x3) x1 := by
  unfold k0_pay131; rw [pay119_eq, pay120_eq, pay122_eq, pay125_eq, pay126_eq, pay127_eq, pay128_eq, pay129_eq]; rfl
theorem pay132_eq : k0_pay132 x0 x1 x2 x3 = z1 x0 x1 x2 x3 := by
  unfold k0_pay132; rw [pay119_eq, pay120_eq, pay130_eq, pay131_eq]; rfl
theorem pay133_eq : k0_pay133 x0 x1 x2 x3 = a1 x0 x1 x2 x3 := by
  unfold k0_pay133; rw [pay120_eq, pay121_eq, pay130_eq, pay131_eq]; rfl
theorem pay134_eq : k0_pay134 x0 x1 x2 x3 = sumsq (z1 x0 x1 x2 x3) := by
  unfold k0_pay134; rw [pay132_eq]; rfl
theorem pay135_eq : k0_pay135 x0 x1 x2 x3 = m1 (z1 x0 x1 x2 x3) (sumsq (z1 x0 x1 x2 x3)) x1 x2 := by
  unfold k0_pay135; rw [pay132_eq]; rfl
theorem pay136_eq : k0_pay136 x0 x1 x2 x3 = matmul dot_S128x32_S2048x32_S128x2048_1_1_0_0_n_n none (z1 x0 x1 x2 x3) (shapeCast S2048x32 (View.ld x1 r0_4) shapeCasts_S2048x32_S2048x32) (constant S128x2048 .f32 0x00000000#32) := by
  unfold k0_pay136; rw [pay132_eq]; rfl
theorem pay137_eq : k0_pay137 x0 x1 x2 x3 = addf (broadcastTo S128x2048 (sumsq (z1 x0 x1 x2 x3)) broadcasts_S128x1_S128x2048) (broadcastTo S128x2048 (shapeCast S1x2048 (View.ld x2 r0_5) shapeCasts_S1x2048_S1x2048) broadcasts_S1x2048_S128x2048) := by
  unfold k0_pay137; rw [pay132_eq]; rfl
theorem pay138_eq : k0_pay138 x0 x1 x2 x3 = broadcast S128x2048 (Scalar.ofBits .f32 0x40000000#32) := rfl
theorem pay139_eq : k0_pay139 x0 x1 x2 x3 = i3 (z1 x0 x1 x2 x3) (sumsq (z1 x0 x1 x2 x3)) x1 x2 := by
  unfold k0_pay139; rw [pay120_eq, pay132_eq, pay134_eq, pay135_eq, pay136_eq, pay137_eq, pay138_eq]; rfl
theorem pay140_eq : k0_pay140 x0 x1 x2 x3 = m3 (z1 x0 x1 x2 x3) (sumsq (z1 x0 x1 x2 x3)) x1 x2 := by
  unfold k0_pay140; rw [pay132_eq, pay134_eq, pay135_eq, pay136_eq, pay137_eq, pay138_eq]; rfl
theorem pay141_eq : k0_pay141 x0 x1 x2 x3 = c2 x0 x1 x2 x3 := by
  unfold k0_pay141; rw [pay120_eq, pay132_eq, pay134_eq, pay139_eq, pay140_eq]; rfl
theorem pay142_eq : k0_pay142 x0 x1 x2 x3 = q1 (c2 x0 x1 x2 x3) x1 := by
  unfold k0_pay142; rw [pay120_eq, pay132_eq, pay134_eq, pay139_eq, pay140_eq]; rfl
theorem pay143_eq : k0_pay143 x0 x1 x2 x3 = shapeCast S2048x32 (View.ld x1 r0_4) shapeCasts_S2048x32_S2048x32 := rfl
theorem pay144_eq : k0_pay144 x0 x1 x2 x3 = onehot 0x45000000#32 (c2 x0 x1 x2 x3) := by
  unfold k0_pay144; rw [pay120_eq, pay132_eq, pay134_eq, pay139_eq, pay140_eq]; rfl
theorem pay145_eq : k0_pay145 x0 x1 x2 x3 = z2 x0 x1 x2 x3 := by
  unfold k0_pay145; rw [pay120_eq, pay132_eq, pay141_eq, pay142_eq, pay143_eq, pay144_eq]; rfl
theorem pay146_eq : k0_pay146 x0 x1 x2 x3 = a2 x0 x1 x2 x3 := by
  unfold k0_pay146; rw [pay120_eq, pay133_eq, pay141_eq, pay142_eq, pay143_eq, pay144_eq]; rfl
theorem pay147_eq : k0_pay147 x0 x1 x2 x3 = sumsq (z2 x0 x1 x2 x3) := by
  unfold k0_pay147; rw [pay120_eq, pay132_eq, pay141_eq, pay142_eq, pay143_eq, pay144_eq]; rfl
theorem pay148_eq : k0_pay148 x0 x1 x2 x3 = m0 (F := F) := rfl
theorem pay149_eq : k0_pay149 x0 x1 x2 x3 = m1 (z2 x0 x1 x2 x3) (sumsq (z2 x0 x1 x2 x3)) x1 x2 := by
  unfold k0_pay149; rw [pay145_eq, pay147_eq, pay148_eq]; rfl
theorem pay150_eq : k0_pay150 x0 x1 x2 x3 = rowMin (s1 (z2 x0 x1 x2 x3) (sumsq (z2 x0 x1 x2 x3)) x1 x2) := by
  unfold k0_pay150; rw [pay145_eq, pay147_eq]; rfl
theorem pay151_eq : k0_pay151 x0 x1 x2 x3 = i3 (z2 x0 x1 x2 x3) (sumsq (z2 x0 x1 x2 x3)) x1 x2 := by
  unfold k0_pay151; rw [pay120_eq, pay145_eq, pay147_eq, pay148_eq, pay149_eq, pay150_eq]; rfl
theorem pay152_eq : k0_pay152 x0 x1 x2 x3 = m3 (z2 x0 x1 x2 x3) (sumsq (z2 x0 x1 x2 x3)) x1 x2 := by
  unfold k0_pay152; rw [pay145_eq, pay147_eq, pay149_eq, pay150_eq]; rfl
theorem pay153_eq : k0_pay153 x0 x1 x2 x3 = matmul dot_S128x32_S2048x32_S128x2048_1_1_0_0_n_n none (z2 x0 x1 x2 x3) (shapeCast S2048x32 (View.ld x1 r0_8) shapeCasts_S2048x32_S2048x32) (constant S128x2048 .f32 0x00000000#32) := by
  unfold k0_pay153; rw [pay145_eq]; rfl
theorem pay154_eq : k0_pay154 x0 x1 x2 x3 = addf (broadcastTo S128x2048 (sumsq (z2 x0 x1 x2 x3)) broadcasts_S128x1_S128x2048) (broadcastTo S128x2048 (shapeCast S1x2048 (View.ld x2 r0_9) shapeCasts_S1x2048_S1x2048) broadcasts_S1x2048_S128x2048) := by
  unfold k0_pay154; rw [pay147_eq]; rfl
theorem pay155_eq : k0_pay155 x0 x1 x2 x3 = c3 x0 x1 x2 x3 := by
  unfold k0_pay155; rw [pay120_eq, pay151_eq, pay152_eq, pay153_eq, pay154_eq]; rfl
theorem pay156_eq : k0_pay156 x0 x1 x2 x3 = q2 (c3 x0 x1 x2 x3) x1 := by
  unfold k0_pay156; rw [pay120_eq, pay151_eq, pay152_eq, pay153_eq, pay154_eq]; rfl
theorem pay157_eq : k0_pay157 x0 x1 x2 x3 = shapeCast S2048x32 (View.ld x1 r0_6) shapeCasts_S2048x32_S2048x32 := rfl
theorem pay158_eq : k0_pay158 x0 x1 x2 x3 = laneAt (F := F) 0x45800000#32 := by
  unfold k0_pay158; rw [pay120_eq]; rfl
theorem pay159_eq : k0_pay159 x0 x1 x2 x3 = z3 x0 x1 x2 x3 := by
  unfold k0_pay159; rw [pay120_eq, pay145_eq, pay155_eq, pay156_eq, pay157_eq, pay158_eq]; rfl
theorem pay160_eq : k0_pay160 x0 x1 x2 x3 = a3 x0 x1 x2 x3 := by
  unfold k0_pay160; rw [pay120_eq, pay146_eq, pay155_eq, pay156_eq, pay157_eq, pay158_eq]; rfl
theorem pay161_eq : k0_pay161 x0 x1 x2 x3 = sumsq (z3 x0 x1 x2 x3) := by
  unfold k0_pay161; rw [pay120_eq, pay145_eq, pay155_eq, pay156_eq, pay157_eq, pay158_eq]; rfl
theorem pay162_eq : k0_pay162 x0 x1 x2 x3 = m0 (F := F) := rfl
theorem pay163_eq : k0_pay163 x0 x1 x2 x3 = matmul dot_S128x32_S2048x32_S128x2048_1_1_0_0_n_n none (z3 x0 x1 x2 x3) (shapeCast S2048x32 (View.ld x1 r0_2) shapeCasts_S2048x32_S2048x32) (constant S128x2048 .f32 0x00000000#32) := by
  unfold k0_pay163; rw [pay120_eq, pay145_eq, pay155_eq, pay156_eq, pay157_eq, pay158_eq]; rfl
theorem pay164_eq : k0_pay164 x0 x1 x2 x3 = addf (broadcastTo S128x2048 (sumsq (z3 x0 x1 x2 x3)) broadcasts_S128x1_S128x2048) (broadcastTo S128x2048 (shapeCast S1x2048 (View.ld x2 r0_3) shapeCasts_S1x2048_S1x2048) broadcasts_S1x2048_S128x2048) := by
  unfold k0_pay164; rw [pay120_eq, pay145_eq, pay155_eq, pay156_eq, pay157_eq, pay158_eq]; rfl
theorem pay165_eq : k0_pay165 x0 x1 x2 x3 = m2 (z3 x0 x1 x2 x3) (sumsq (z3 x0 x1 x2 x3)) x1 x2 := by
  unfold k0_pay165; rw [pay159_eq, pay161_eq, pay162_eq, pay163_eq, pay164_eq]; rfl
theorem pay166_eq : k0_pay166 x0 x1 x2 x3 = i3 (z3 x0 x1 x2 x3) (sumsq (z3 x0 x1 x2 x3)) x1 x2 := by
  unfold k0_pay166; rw [pay120_eq, pay159_eq, pay161_eq, pay162_eq, pay163_eq, pay164_eq, pay165_eq]; rfl
theorem pay167_eq : k0_pay167 x0 x1 x2 x3 = m3 (z3 x0 x1 x2 x3) (sumsq (z3 x0 x1 x2 x3)) x1 x2 := by
  unfold k0_pay167; rw [pay159_eq, pay161_eq, pay165_eq]; rfl
theorem pay168_eq : k0_pay168 x0 x1 x2 x3 = rowMin (s3 (z3 x0 x1 x2 x3) (sumsq (z3 x0 x1 x2 x3)) x1 x2) := by
  unfold k0_pay168; rw [pay159_eq, pay161_eq]; rfl
theorem pay169_eq : k0_pay169 x0 x1 x2 x3 = cmpf .oeq (s3 (z3 x0 x1 x2 x3) (sumsq (z3 x0 x1 x2 x3)) x1 x2) (broadcastTo S128x2048 (rowMin (s3 (z3 x0 x1 x2 x3) (sumsq (z3 x0 x1 x2 x3)) x1 x2)) broadcasts_S128x1_S128x2048) := by
  unfold k0_pay169; rw [pay159_eq, pay161_eq]; rfl
theorem pay170_eq : k0_pay170 x0 x1 x2 x3 = laneAt (F := F) 0x45C00000#32 := by
  unfold k0_pay170; rw [pay120_eq]; rfl
theorem pay171_eq : k0_pay171 x0 x1 x2 x3 = c4 x0 x1 x2 x3 := by
  unfold k0_pay171; rw [pay166_eq, pay167_eq, pay168_eq, pay169_eq, pay170_eq]; rfl
theorem pay172_eq : k0_pay172 x0 x1 x2 x3 = q3 (c4 x0 x1 x2 x3) x1 := by
  unfold k0_pay172; rw [pay120_eq, pay166_eq, pay167_eq, pay168_eq, pay169_eq, pay170_eq]; rfl

/-! ## The windows' buffers -/

theorem out4_eq : out0_4 x0 x1 x2 x3 = View.canon [⟨r0_10, concatenate S4x128x32 0
    [⟨S1x128x32, shapeCast S1x128x32 (a1 x0 x1 x2 x3) shapeCasts_S128x32_S1x128x32⟩, ⟨S1x128x32, shapeCast S1x128x32 (a2 x0 x1 x2 x3) shapeCasts_S128x32_S1x128x32⟩,
      ⟨S1x128x32, shapeCast S1x128x32 (a3 x0 x1 x2 x3) shapeCasts_S128x32_S1x128x32⟩, ⟨S1x128x32, shapeCast S1x128x32 (a4 x0 x1 x2 x3) shapeCasts_S128x32_S1x128x32⟩]
    concatenates_S1x128x32_S1x128x32_S1x128x32_S1x128x32_S4x128x32_d0⟩] := by
  unfold out0_4; rw [pay120_eq, pay133_eq, pay146_eq, pay160_eq, pay171_eq, pay172_eq]; rfl

theorem out5_eq : out0_5 x0 x1 x2 x3 = View.canon [⟨r0_11, concatenate S128x4 1
    [⟨S128x1, fptosi 32 (c1 x0 x1 x2 x3)⟩, ⟨S128x1, fptosi 32 (c2 x0 x1 x2 x3)⟩, ⟨S128x1, fptosi 32 (c3 x0 x1 x2 x3)⟩, ⟨S128x1, fptosi 32 (c4 x0 x1 x2 x3)⟩]
    concatenates_S128x1_S128x1_S128x1_S128x1_S128x4_d1⟩] := by
  unfold out0_5; rw [pay130_eq, pay141_eq, pay155_eq, pay171_eq]; rfl

theorem out6_eq : out0_6 x0 x1 x2 x3 = View.canon [⟨r0_12, shapeCast S1x1x128 (l4 x0 x1 x2 x3) shapeCasts_S1x128_S1x1x128⟩] := by
  unfold out0_6
  rw [pay118_eq, pay119_eq, pay120_eq, pay121_eq, pay130_eq, pay131_eq, pay133_eq, pay141_eq, pay142_eq, pay143_eq, pay144_eq, pay146_eq,
    pay155_eq, pay156_eq, pay157_eq, pay158_eq, pay160_eq, pay171_eq, pay172_eq]
  rfl

end Chain

end Cert.KernelIdeal.Steps
-- ==== Proof.Nearest.lean ====
/-
  The nearest row, as mathematics: among `n` extended reals the first place of the least one, the bookkeeping of a
  running minimum over a growing set of places (`Best`), and the residual quantisation built on it.
-/
module

public import Idealize.ShloMosaic.PureOps.Ideal
public import Mathlib.Data.EReal.Operations
public import Mathlib.Algebra.BigOperators.Fin

@[expose] public section

noncomputable section

open scoped BigOperators

namespace Cert.RQ

/-! ## The first place of the least value -/

/-- `k` is the first place of the least value of `d`. -/
def IsNear {n : Nat} (d : Fin n → EReal) (k : Fin n) : Prop := ∀ j, d k ≤ d j ∧ (d j = d k → k ≤ j)

/-- There is at most one first place of the least value. -/
theorem IsNear.unique {n : Nat} {d : Fin n → EReal} {k l : Fin n} (hk : IsNear d k) (hl : IsNear d l) : k = l := by
  have h : d k = d l := le_antisymm (hk l).1 (hl k).1
  exact le_antisymm ((hk l).2 h.symm) ((hl k).2 h)

/-- A list that is not empty has one. -/
theorem exists_isNear {n : Nat} (hn : 0 < n) (d : Fin n → EReal) : ∃ k, IsNear d k := by
  classical
  haveI : Nonempty (Fin n) := ⟨⟨0, hn⟩⟩
  obtain ⟨m, -, hm⟩ := Finset.exists_min_image Finset.univ d Finset.univ_nonempty
  have hne : (Finset.univ.filter fun j => d j = d m).Nonempty := ⟨m, by simp⟩
  have hmem := Finset.min'_mem _ hne
  rw [Finset.mem_filter] at hmem
  refine ⟨(Finset.univ.filter fun j => d j = d m).min' hne, fun j => ⟨hmem.2.le.trans (hm j (Finset.mem_univ j)), fun hj => ?_⟩⟩
  exact Finset.min'_le _ _ (by rw [Finset.mem_filter]; exact ⟨Finset.mem_univ j, hj.trans hmem.2⟩)

/-- The first place of the least of `8192` extended reals. -/
def near (d : Fin 8192 → EReal) : Fin 8192 := (exists_isNear (by decide) d).choose

/-- `near` is that place. -/
theorem near_isNear (d : Fin 8192 → EReal) : IsNear d (near d) := (exists_isNear (by decide) d).choose_spec

/-- Whatever is that place is `near`. -/
theorem eq_near {d : Fin 8192 → EReal} {k : Fin 8192} (h : IsNear d k) : k = near d := h.unique (near_isNear d)

/-! ## A running minimum with its place -/

/-- Over the places in `S`, `m` is the least value and `t` the first place that has it; or nothing is below `⊤` there
    and `(m, t)` is still the pair `(⊤, 0)` a running minimum starts from. -/
structure Best {n : Nat} (d : Fin n → EReal) (S : Fin n → Prop) (m : EReal) (t : Nat) : Prop where
  le : ∀ k, S k → m ≤ d k
  first : ∀ k, S k → d k = m → t ≤ k.val
  hit : (∃ k, S k ∧ k.val = t ∧ d k = m) ∨ (t = 0 ∧ m = ⊤)

/-- Before anything is searched, the least value is +∞ and the place 0. -/
theorem Best.start {n : Nat} (d : Fin n → EReal) : Best d (fun _ => False) ⊤ 0 :=
  ⟨fun _ h => h.elim, fun _ h => h.elim, Or.inr ⟨rfl, rfl⟩⟩

/-- The search depends only on the set that was searched. -/
theorem Best.congr {n : Nat} {d : Fin n → EReal} {S T : Fin n → Prop} {m : EReal} {t : Nat} (h : Best d S m t)
    (hS : ∀ k, T k ↔ S k) : Best d T m t := by
  have : T = S := funext fun k => propext (hS k)
  exact this ▸ h

/-- Over all the places it is the first place of the least value. -/
theorem Best.near {d : Fin 8192 → EReal} {S : Fin 8192 → Prop} {m : EReal} {t : Nat} (h : Best d S m t)
    (hS : ∀ k, S k) : t = (near d).val := by
  have key : ∃ k : Fin 8192, k.val = t ∧ d k = m := by
    rcases h.hit with ⟨k, -, hk, hd⟩ | ⟨h0, hm⟩
    · exact ⟨k, hk, hd⟩
    · exact ⟨⟨0, by decide⟩, h0.symm, (top_le_iff.mp (hm ▸ h.le _ (hS _))).trans hm.symm⟩
  obtain ⟨k, hk, hd⟩ := key
  have : IsNear d k := fun j => ⟨hd ▸ h.le j (hS j), fun hj => by
    have := h.first j (hS j) (hj.trans hd)
    exact Fin.le_def.mpr (by omega)⟩
  rw [← hk, eq_near this]

/-- A block of further places, all of them after the ones seen, taken in by a strict comparison. -/
theorem Best.block {n : Nat} {d : Fin n → EReal} {S T : Fin n → Prop} {m m' : EReal} {t t' : Nat} (h : Best d S m t)
    (hST : ∀ k l, S k → T l → k.val < l.val) (hle : ∀ k, T k → m' ≤ d k) (hfirst : ∀ k, T k → d k = m' → t' ≤ k.val)
    (hhit : ∃ k, T k ∧ k.val = t' ∧ d k = m') :
    Best d (fun k => S k ∨ T k) (if m' < m then m' else m) (if m' < m then t' else t) := by
  by_cases hlt : m' < m
  · simp only [if_pos hlt]
    refine ⟨fun k hk => ?_, fun k hk hd => ?_, ?_⟩
    · rcases hk with hk | hk
      · exact hlt.le.trans (h.le k hk)
      · exact hle k hk
    · rcases hk with hk | hk
      · exact absurd (h.le k hk) (not_le.mpr (hd ▸ hlt))
      · exact hfirst k hk hd
    · obtain ⟨k, hk, ht, hd⟩ := hhit
      exact Or.inl ⟨k, Or.inr hk, ht, hd⟩
  · simp only [if_neg hlt]
    have hmm : m ≤ m' := not_lt.mp hlt
    refine ⟨fun k hk => ?_, fun k hk hd => ?_, ?_⟩
    · rcases hk with hk | hk
      · exact h.le k hk
      · exact hmm.trans (hle k hk)
    · rcases hk with hk | hk
      · exact h.first k hk hd
      · rcases h.hit with ⟨l, hl, ht, -⟩ | ⟨h0, -⟩
        · exact ht ▸ (hST l k hl hk).le
        · omega
    · rcases h.hit with ⟨l, hl, ht, hd⟩ | h0
      · exact Or.inl ⟨l, Or.inl hl, ht, hd⟩
      · exact Or.inr h0

/-- One further place, anywhere, taken in with ties going to the smaller place. -/
theorem Best.step {n : Nat} {d : Fin n → EReal} {S : Fin n → Prop} {m : EReal} {t : Nat} (h : Best d S m t) (k : Fin n) :
    Best d (fun j => S j ∨ j = k) (if m < d k then m else d k)
      (if m < d k ∨ (m = d k ∧ t < k.val) then t else k.val) := by
  rcases lt_trichotomy m (d k) with hlt | heq | hgt
  · simp only [if_pos hlt, if_pos (Or.inl hlt : m < d k ∨ (m = d k ∧ t < k.val))]
    refine ⟨fun j hj => ?_, fun j hj hd => ?_, ?_⟩
    · rcases hj with hj | rfl
      · exact h.le j hj
      · exact hlt.le
    · rcases hj with hj | rfl
      · exact h.first j hj hd
      · exact absurd hd hlt.ne'
    · rcases h.hit with ⟨l, hl, ht, hd⟩ | h0
      · exact Or.inl ⟨l, Or.inl hl, ht, hd⟩
      · exact Or.inr h0
  · have hn : ¬ m < d k := by rw [heq]; exact lt_irrefl _
    simp only [if_neg hn]
    by_cases htk : t < k.val
    · rw [if_pos (Or.inr ⟨heq, htk⟩)]
      refine ⟨fun j hj => ?_, fun j hj hd => ?_, ?_⟩
      · rcases hj with hj | rfl
        · exact heq ▸ h.le j hj
        · exact le_rfl
      · rcases hj with hj | rfl
        · exact h.first j hj (hd.trans heq.symm)
        · exact htk.le
      · rcases h.hit with ⟨l, hl, ht, hd⟩ | h0
        · exact Or.inl ⟨l, Or.inl hl, ht, hd.trans heq⟩
        · exact Or.inr ⟨h0.1, heq ▸ h0.2⟩
    · rw [if_neg (by rintro (h1 | h1); exacts [hn h1, htk h1.2])]
      refine ⟨fun j hj => ?_, fun j hj hd => ?_, Or.inl ⟨k, Or.inr rfl, rfl, rfl⟩⟩
      · rcases hj with hj | rfl
        · exact heq ▸ h.le j hj
        · exact le_rfl
      · rcases hj with hj | rfl
        · have := h.first j hj (hd.trans heq.symm); omega
        · exact le_rfl
  · have hn : ¬ m < d k := not_lt.mpr hgt.le
    rw [if_neg hn, if_neg (by rintro (h1 | h1); exacts [hn h1, hgt.ne' h1.1])]
    refine ⟨fun j hj => ?_, fun j hj hd => ?_, Or.inl ⟨k, Or.inr rfl, rfl, rfl⟩⟩
    · rcases hj with hj | rfl
      · exact hgt.le.trans (h.le j hj)
      · exact le_rfl
    · rcases hj with hj | rfl
      · exact absurd (h.le j hj) (not_le.mpr (hd ▸ hgt))
      · exact le_rfl

/-! ## Residual quantisation of one row -/

/-- The squared distance of a row to codebook row `k`, expanded the way both programs compute it; the factor `c` is
    their constant two. -/
def dist (c : EReal) (E : Fin 8192 → Fin 32 → EReal) (zz : EReal) (z : Fin 32 → EReal) (k : Fin 8192) : EReal :=
  (zz + ∑ j, E k j * E k j) - c * ∑ j, z j * E k j

/-- The sum of a row's squares. -/
def sq (z : Fin 32 → EReal) : EReal := ∑ j, z j * z j

/-- The codebook row nearest to a row. -/
def pick (c : EReal) (E : Fin 8192 → Fin 32 → EReal) (z : Fin 32 → EReal) : Fin 8192 := near (dist c E (sq z) z)

/-- What is left of a row after `n` steps: each takes away the nearest codebook row. -/
def resid (c : EReal) (E : Fin 8192 → Fin 32 → EReal) (x : Fin 32 → EReal) : Nat → Fin 32 → EReal
  | 0 => x
  | n + 1 => fun j => resid c E x n j - E (pick c E (resid c E x n)) j

/-- The code of step `n`. -/
def code (c : EReal) (E : Fin 8192 → Fin 32 → EReal) (x : Fin 32 → EReal) (n : Nat) : Fin 8192 := pick c E (resid c E x n)

/-- The codebook rows of the first `n` steps, added up from zero. -/
def agg (c : EReal) (E : Fin 8192 → Fin 32 → EReal) (x : Fin 32 → EReal) : Nat → Fin 32 → EReal
  | 0 => fun _ => 0
  | n + 1 => fun j => agg c E x n j + E (code c E x n) j

/-- The squared error of a row after `n` steps. -/
def err (c : EReal) (E : Fin 8192 → Fin 32 → EReal) (x : Fin 32 → EReal) (n : Nat) : EReal :=
  ∑ j, (x j - agg c E x n j) * (x j - agg c E x n j)

end Cert.RQ
-- ==== Proof.Consts.lean ====
/-
  The bit patterns the two programs write, as extended reals, and the words of small places.
-/
module

public import Idealize.ShloMosaic.PureOps.Ideal
public import Idealize.ShloMosaic.PureOps.Ideal.Laws

@[expose] public section

noncomputable section

namespace Cert.RQ

open Idealize.ShloMosaic

/-- The values of the float constants that the programs use. -/
theorem bits_zero : Ideal.ofBits .f32 0x00000000#32 = ((0 : ℕ) : ℝ) := by
  rw [Ideal.ofBits_zero_f32]; norm_num
theorem bits_inf : Ideal.ofBits .f32 0x7F800000#32 = ⊤ := by
  simp [Ideal.ofBits, Ideal.ieee]
theorem bits_2048 : Ideal.ofBits .f32 0x45000000#32 = ((2048 : ℕ) : ℝ) := by
  simp [Ideal.ofBits, Ideal.ieee, -EReal.coe_mul]; norm_num
theorem bits_4096 : Ideal.ofBits .f32 0x45800000#32 = ((4096 : ℕ) : ℝ) := by
  simp [Ideal.ofBits, Ideal.ieee, -EReal.coe_mul]; norm_num
theorem bits_6144 : Ideal.ofBits .f32 0x45C00000#32 = ((6144 : ℕ) : ℝ) := by
  simp [Ideal.ofBits, Ideal.ieee, -EReal.coe_mul]; norm_num
theorem bits_8192 : Ideal.ofBits .f32 0x46000000#32 = ((8192 : ℕ) : ℝ) := by
  simp [Ideal.ofBits, Ideal.ieee, -EReal.coe_mul]; norm_num

/-- The constant two both programs scale the products by. -/
def two : EReal := Ideal.ofBits .f32 0x40000000#32

/-- A small number as a signed word is itself. -/
theorem toInt_ofNat_small {n : Nat} (h : n < 2 ^ 31) : (BitVec.ofNat 32 n).toInt = (n : Int) := by
  rw [BitVec.toInt_ofNat']
  apply Int.bmod_eq_of_le <;> omega

/-- A small number as an unsigned word is itself. -/
theorem toNat_ofNat_small {n : Nat} (h : n < 2 ^ 31) : (BitVec.ofNat 32 n).toNat = n := by
  rw [BitVec.toNat_ofNat, Nat.mod_eq_of_lt (by omega)]

/-- A place, converted to a word, is that place. -/
theorem fptosi_place {t : Nat} (h : t < 8192) : Ideal.fptosi 32 ((t : ℝ) : EReal) = BitVec.ofNat 32 t := by
  rw [Ideal.fptosi, Ideal.toIntClamped_coe]
  have h0 : (0 : ℝ) ≤ (t : ℝ) := Nat.cast_nonneg t
  rw [if_pos h0, Int.floor_natCast]
  have : max (-((2 ^ (32 - 1) : Nat) : Int)) (min (((2 ^ (32 - 1) : Nat) : Int) - 1) (t : Int)) = (t : Int) := by
    norm_num; omega
  rw [this, BitVec.ofInt_natCast]

end Cert.RQ
-- ==== Proof.StepsAt.lean ====
/-
  One step of the kernel read at a row, over the extended reals: the running place ends at the nearest codebook row,
  and the product with the one-hot matrix reads that row back.
-/
module

public import proofs.«01_k».proof.Proof.Steps
public import proofs.«01_k».proof.Proof.Nearest
public import proofs.«01_k».proof.Proof.Consts
public import Idealize.ShloMosaic.Lib.ValueIdx
public import Idealize.ShloMosaic.Lib.ValueIdxCoords
public import Idealize.ShloMosaic.Lib.Pipeline.Value

@[expose] public section

set_option maxRecDepth 16384

noncomputable section

open scoped BigOperators

namespace Cert.KernelIdeal.Steps

open Idealize.ShloMosaic Idealize.ShloMosaic.TcCoe Idealize.ShloMosaic.ValueIdx
open Cert.KernelIdeal Cert.KernelIdeal.Gen Cert.RQ

/-! ## Shape operations at an index -/

/-- A list as a column. -/
theorem cast_col {α : Type} (v : S128.Idx → α) (r : Fin 128) (u : Fin 1) :
    shapeCast S128x1 v shapeCasts_S128_S128x1 (ix2 r u) = v (ix1 r) := by
  refine shapeCast_apply v _ _ _ ?_
  rw [Shape.rowMajor_val_one, Shape.rowMajor_val_two]
  show r.val = r.val * 1 + u.val
  omega

/-- A column repeated along the rows. -/
theorem bcast_col {α : Type} (v : S128x1.Idx → α) (r : Fin 128) (k : Fin 2048) :
    broadcastTo S128x2048 v broadcasts_S128x1_S128x2048 (ix2 r k) = v (ix2 r 0) := by
  refine broadcastTo_apply v _ _ _ fun a => ?_
  match a with
  | ⟨0, _⟩ => rfl
  | ⟨1, _⟩ => rfl

/-- A row repeated along the columns. -/
theorem bcast_row {α : Type} (v : S1x2048.Idx → α) (r : Fin 128) (k : Fin 2048) :
    broadcastTo S128x2048 v broadcasts_S1x2048_S128x2048 (ix2 r k) = v (ix2 0 k) := by
  refine broadcastTo_apply v _ _ _ fun a => ?_
  match a with
  | ⟨0, _⟩ => rfl
  | ⟨1, _⟩ => rfl

/-- Where a minimum or a sum along a row reads. -/
theorem lift_row (r : Fin 128) (k : Fin 2048) : reduces_S128x2048_S128.lift (ix1 r) k = ix2 r k := by
  funext a
  match a with
  | ⟨0, _⟩ => rfl
  | ⟨1, _⟩ => rfl

theorem lift_row32 (r : Fin 128) (k : Fin 32) : reduces_S128x32_S128.lift (ix1 r) k = ix2 r k := by
  funext a
  match a with
  | ⟨0, _⟩ => rfl
  | ⟨1, _⟩ => rfl

/-! ## The least entry of a row -/

/-- A row's minimum at an index. -/
theorem rowMin_eq (s : FVec Ideal S128x2048 .f32) (r : Fin 128) (u : Fin 1) :
    rowMin s (ix2 r u) = Finset.univ.inf fun k : Fin 2048 => s (ix2 r k) := by
  unfold rowMin
  rw [cast_col]
  refine (multiReduction_minimumf_eq_fold ..).trans ?_
  refine (reduces_S128x2048_S128.fold_filter_drop_single _ _ s _).trans ?_
  show Finset.fold min (Ideal.ofBits .f32 0x7F800000#32) _ _ = _
  rw [bits_inf]
  show _ = Finset.fold min ⊤ _ _
  refine congrArg (fun f => Finset.fold min ⊤ f Finset.univ) (funext fun k => ?_)
  exact congrArg s (lift_row r k)

/-- A row's minimum is below each of its entries, -/
theorem rowMin_le (s : FVec Ideal S128x2048 .f32) (r : Fin 128) (u : Fin 1) (k : Fin 2048) :
    (rowMin s (ix2 r u) : EReal) ≤ s (ix2 r k) := by
  rw [rowMin_eq]; exact Finset.inf_le (Finset.mem_univ k)

/-- and is one of them. -/
theorem rowMin_mem (s : FVec Ideal S128x2048 .f32) (r : Fin 128) (u : Fin 1) :
    ∃ k : Fin 2048, rowMin s (ix2 r u) = s (ix2 r k) := by
  rw [rowMin_eq]
  obtain ⟨k, -, hk⟩ := Finset.exists_mem_eq_inf (Finset.univ : Finset (Fin 2048)) Finset.univ_nonempty fun k => s (ix2 r k)
  exact ⟨k, hk⟩

/-! ## The places of a block -/

/-- A block's place numbers: the lane and the block's offset. -/
theorem laneAt_apply {o : BitVec 32} {n : Nat} (ho : Ideal.ofBits .f32 o = ((n : ℕ) : ℝ)) (u : Fin 1) (k : Fin 2048) :
    laneAt (F := Ideal) o (ix2 u k) = (((k.val + n : ℕ) : ℝ) : EReal) := by
  have h1 : (k0_pay2 (F := Ideal)) (ix2 u k) = (((k.val : ℕ) : ℝ) : EReal) := by
    show (((iota .tc S1x2048 32 [1] iota_S1x2048_d1_w32 (ix2 u k)).toInt : ℝ) : EReal) = _
    rw [iota_single_apply, toInt_ofNat_small (show ((ix2 u k : S1x2048.Idx) 1).val < 2 ^ 31 from by have := k.isLt; show k.val < _; omega)]
    norm_num
  show (k0_pay2 (F := Ideal)) (ix2 u k) + Ideal.ofBits .f32 o = _
  rw [h1, ho, ← EReal.coe_add]
  norm_num

/-- The places where the minimum is met, and 8192 elsewhere. -/
theorem sel_apply {o : BitVec 32} {n : Nat} (ho : Ideal.ofBits .f32 o = ((n : ℕ) : ℝ)) (s : FVec Ideal S128x2048 .f32)
    (r : Fin 128) (k : Fin 2048) :
    (select (cmpf .oeq s (broadcastTo S128x2048 (rowMin s) broadcasts_S128x1_S128x2048))
      (broadcastTo S128x2048 (shapeCast S1x2048 (laneAt (F := Ideal) o) shapeCasts_S1x2048_S1x2048) broadcasts_S1x2048_S128x2048)
      (broadcast S128x2048 (Scalar.ofBits .f32 0x46000000#32)) : FVec Ideal S128x2048 .f32) (ix2 r k)
      = if s (ix2 r k) = rowMin s (ix2 r 0) then (((k.val + n : ℕ) : ℝ) : EReal) else ((8192 : ℕ) : ℝ) := by
  rw [select_apply, cmpf_apply, bcast_col, bcast_row, shapeCast_self, laneAt_apply ho]
  show Scalar.select (Ideal.cmp .oeq _ _) _ (Ideal.ofBits .f32 0x46000000#32) = _
  rw [bits_8192]
  by_cases h : s (ix2 r k) = rowMin s (ix2 r 0)
  · rw [if_pos h]; simp [Scalar.select, Ideal.cmp, h]
  · rw [if_neg h]; simp [Scalar.select, Ideal.cmp, h]

/-- Within a block that starts at `n`, the place is the first one of the row's least score. -/
theorem place_apply {o : BitVec 32} {n : Nat} (ho : Ideal.ofBits .f32 o = ((n : ℕ) : ℝ)) (hn : n + 2048 ≤ 8192)
    (s : FVec Ideal S128x2048 .f32) (r : Fin 128) (u : Fin 1) :
    ∃ k : Fin 2048, s (ix2 r k) = rowMin s (ix2 r 0) ∧ (∀ l : Fin 2048, s (ix2 r l) = rowMin s (ix2 r 0) → k ≤ l)
      ∧ place o s (ix2 r u) = (((k.val + n : ℕ) : ℝ) : EReal) := by
  obtain ⟨k, hk⟩ := exists_isNear (by decide : 0 < 2048) fun k : Fin 2048 => (s (ix2 r k) : EReal)
  have hmin : s (ix2 r k) = rowMin s (ix2 r 0) := by
    obtain ⟨l, hl⟩ := rowMin_mem s r 0
    exact le_antisymm (hl ▸ (hk l).1) (rowMin_le s r 0 k)
  refine ⟨k, hmin, fun l hl => (hk l).2 (hl.trans hmin.symm), ?_⟩
  unfold place
  have hle := rowMin_le (select (cmpf .oeq s (broadcastTo S128x2048 (rowMin s) broadcasts_S128x1_S128x2048))
      (broadcastTo S128x2048 (shapeCast S1x2048 (laneAt (F := Ideal) o) shapeCasts_S1x2048_S1x2048) broadcasts_S1x2048_S128x2048)
      (broadcast S128x2048 (Scalar.ofBits .f32 0x46000000#32)) : FVec Ideal S128x2048 .f32) r u k
  obtain ⟨l, hl⟩ := rowMin_mem (select (cmpf .oeq s (broadcastTo S128x2048 (rowMin s) broadcasts_S128x1_S128x2048))
      (broadcastTo S128x2048 (shapeCast S1x2048 (laneAt (F := Ideal) o) shapeCasts_S1x2048_S1x2048) broadcasts_S1x2048_S128x2048)
      (broadcast S128x2048 (Scalar.ofBits .f32 0x46000000#32)) : FVec Ideal S128x2048 .f32) r u
  rw [sel_apply ho, if_pos hmin] at hle
  rw [hl, sel_apply ho] at hle
  rw [hl, sel_apply ho]
  by_cases h : s (ix2 r l) = rowMin s (ix2 r 0)
  · rw [if_pos h] at hle ⊢
    have h2 : k ≤ l := (hk l).2 (h.trans hmin.symm)
    have h3 : l.val + n ≤ k.val + n := by
      have := EReal.coe_le_coe_iff.mp hle
      exact_mod_cast this
    have : l = k := le_antisymm (by rw [Fin.le_def]; omega) h2
    rw [this]
  · rw [if_neg h] at hle
    have h3 : 8192 ≤ k.val + n := by
      have := EReal.coe_le_coe_iff.mp hle
      exact_mod_cast this
    have := k.isLt
    omega

/-! ## The running minimum over the blocks -/

/-- The running minimum and place of row `r` over the first `n` codebook rows. -/
def Run (d : Fin 8192 → EReal) (n : Nat) (m i : FVec Ideal S128x1 .f32) (r : Fin 128) : Prop :=
  ∃ t : Nat, Best d (fun k => k.val < n) (m (ix2 r 0)) t ∧ i (ix2 r 0) = (((t : ℕ) : ℝ) : EReal)

/-- The search before the first block. -/
theorem Run.start (d : Fin 8192 → EReal) (r : Fin 128) : Run d 0 (m0 (F := Ideal)) (i0 (F := Ideal)) r := by
  refine ⟨0, ?_, ?_⟩
  · have : (m0 (F := Ideal)) (ix2 r 0) = (⊤ : EReal) := bits_inf
    rw [this]
    exact (Best.start d).congr fun k => ⟨fun h => absurd h (Nat.not_lt_zero _), fun h => h.elim⟩
  · exact bits_zero

/-- One block more leaves the search right for the longer prefix. -/
theorem Run.block {d : Fin 8192 → EReal} {n : Nat} {m i : FVec Ideal S128x1 .f32} {r : Fin 128} (h : Run d n m i r)
    {o : BitVec 32} (ho : Ideal.ofBits .f32 o = ((n : ℕ) : ℝ)) (hn : n + 2048 ≤ 8192) (s : FVec Ideal S128x2048 .f32)
    (hs : ∀ k : Fin 2048, s (ix2 r k) = d ⟨k.val + n, by have := k.isLt; omega⟩) :
    Run d (n + 2048) (stepM m s) (stepI o m i s) r := by
  obtain ⟨t, hb, hi⟩ := h
  obtain ⟨k, hmin, hfirst, hp⟩ := place_apply ho hn s r 0
  have hb' := hb.block (T := fun j => n ≤ j.val ∧ j.val < n + 2048) (m' := rowMin s (ix2 r 0)) (t' := k.val + n)
    (fun a b ha hb => lt_of_lt_of_le ha hb.1)
    (fun j hj => by
      have := rowMin_le s r 0 ⟨j.val - n, by omega⟩
      rw [hs] at this
      have e : (⟨j.val - n + n, by omega⟩ : Fin 8192) = j := Fin.ext (by show j.val - n + n = j.val; omega)
      exact e ▸ this)
    (fun j hj hd => by
      have e : (⟨j.val - n + n, by omega⟩ : Fin 8192) = j := Fin.ext (by show j.val - n + n = j.val; omega)
      have h1 : s (ix2 r ⟨j.val - n, by omega⟩) = rowMin s (ix2 r 0) := by
        rw [hs]; exact (congrArg d e).trans hd
      have := hfirst _ h1
      rw [Fin.le_def] at this
      have h2 : k.val ≤ j.val - n := this
      omega)
    ⟨⟨k.val + n, by have := k.isLt; omega⟩, ⟨by show n ≤ k.val + n; omega, by show k.val + n < n + 2048; have := k.isLt; omega⟩, rfl,
      by rw [← hs]; exact hmin⟩
  refine ⟨if rowMin s (ix2 r 0) < m (ix2 r 0) then k.val + n else t, ?_, ?_⟩
  · have e : stepM m s (ix2 r 0) = if rowMin s (ix2 r 0) < m (ix2 r 0) then rowMin s (ix2 r 0) else m (ix2 r 0) := by
      show Scalar.select (Ideal.cmp .olt _ _) _ _ = _
      by_cases h : rowMin s (ix2 r 0) < m (ix2 r 0)
      · rw [if_pos h]; simp [Scalar.select, Ideal.cmp, h]
      · rw [if_neg h]; simp [Scalar.select, Ideal.cmp, h]
    rw [e]
    exact hb'.congr fun j => by constructor <;> intro hj <;> omega
  · show Scalar.select (Ideal.cmp .olt _ _) _ _ = _
    by_cases h : rowMin s (ix2 r 0) < m (ix2 r 0)
    · rw [if_pos h]; simp only [Scalar.select, Ideal.cmp, h]; exact hp
    · rw [if_neg h]; simp only [Scalar.select, Ideal.cmp, h]; exact hi

/-! ## The scores -/

/-- Where the product for the distances reads its left side, -/
theorem dot1_lhs (r : Fin 128) (k : Fin 2048) (c : dot_S128x32_S2048x32_S128x2048_1_1_0_0_n_n.contr.Idx) :
    dot_S128x32_S2048x32_S128x2048_1_1_0_0_n_n.lhsIdx (ix2 r k) c = ix2 r (c ⟨0, by decide⟩) := by
  funext a
  match a with
  | ⟨0, _⟩ => rfl
  | ⟨1, _⟩ => rfl
/-- and its right side. -/
theorem dot1_rhs (r : Fin 128) (k : Fin 2048) (c : dot_S128x32_S2048x32_S128x2048_1_1_0_0_n_n.contr.Idx) :
    dot_S128x32_S2048x32_S128x2048_1_1_0_0_n_n.rhsIdx (ix2 r k) c = ix2 k (c ⟨0, by decide⟩) := by
  funext a
  match a with
  | ⟨0, _⟩ => rfl
  | ⟨1, _⟩ => rfl
/-- Where the product that fetches reads its left side, -/
theorem dot2_lhs (r : Fin 128) (k : Fin 32) (c : dot_S128x2048_S2048x32_S128x32_1_0_0_1_n_n.contr.Idx) :
    dot_S128x2048_S2048x32_S128x32_1_0_0_1_n_n.lhsIdx (ix2 r k) c = ix2 r (c ⟨0, by decide⟩) := by
  funext a
  match a with
  | ⟨0, _⟩ => rfl
  | ⟨1, _⟩ => rfl
/-- and its right side. -/
theorem dot2_rhs (r : Fin 128) (k : Fin 32) (c : dot_S128x2048_S2048x32_S128x32_1_0_0_1_n_n.contr.Idx) :
    dot_S128x2048_S2048x32_S128x32_1_0_0_1_n_n.rhsIdx (ix2 r k) c = ix2 (c ⟨0, by decide⟩) k := by
  funext a
  match a with
  | ⟨0, _⟩ => rfl
  | ⟨1, _⟩ => rfl

/-- The product for the distances at an index. -/
theorem dot1_apply (z : FVec Ideal S128x32 .f32) (e : FVec Ideal S2048x32 .f32) (r : Fin 128) (k : Fin 2048) :
    matmul dot_S128x32_S2048x32_S128x2048_1_1_0_0_n_n none z e (constant S128x2048 .f32 0x00000000#32) (ix2 r k)
      = ∑ j : Fin 32, z (ix2 r j) * e (ix2 k j) := by
  simp only [matmul]
  rw [Ideal.matmul_constant_zero_apply]
  rw [← Equiv.sum_comp (contrEquiv1 dot_S128x32_S2048x32_S128x2048_1_1_0_0_n_n 32 rfl rfl).symm]
  refine Finset.sum_congr rfl fun j _ => ?_
  rw [dot1_lhs, dot1_rhs]
  rfl

/-- The product that fetches at an index. -/
theorem dot2_apply (z : FVec Ideal S128x2048 .f32) (e : FVec Ideal S2048x32 .f32) (r : Fin 128) (j : Fin 32) :
    matmul dot_S128x2048_S2048x32_S128x32_1_0_0_1_n_n (some .fp32) z e (constant S128x32 .f32 0x00000000#32) (ix2 r j)
      = ∑ k : Fin 2048, z (ix2 r k) * e (ix2 k j) := by
  simp only [matmul]
  rw [Ideal.matmul_constant_zero_apply]
  rw [← Equiv.sum_comp (contrEquiv1 dot_S128x2048_S2048x32_S128x32_1_0_0_1_n_n 2048 rfl rfl).symm]
  refine Finset.sum_congr rfl fun k _ => ?_
  rw [dot2_lhs, dot2_rhs]
  rfl

/-- The distances of a block at an index. -/
theorem scores_apply (z : FVec Ideal S128x32 .f32) (zz : FVec Ideal S128x1 .f32) (e : Vec Ideal S2048x32 .f32) (q : Vec Ideal S1x2048 .f32)
    (r : Fin 128) (k : Fin 2048) :
    scores z zz e q (ix2 r k) = (zz (ix2 r 0) + q (ix2 0 k)) - two * ∑ j : Fin 32, z (ix2 r j) * e (ix2 k j) := by
  unfold scores
  rw [subf_apply, addf_apply, mulf_apply, bcast_col, bcast_row, dot1_apply, shapeCast_self, shapeCast_self]
  rfl

/-- The squared length of a tile's row. -/
theorem sumsq_apply (z : FVec Ideal S128x32 .f32) (r : Fin 128) (u : Fin 1) :
    sumsq z (ix2 r u) = Cert.RQ.sq fun j => z (ix2 r j) := by
  unfold sumsq
  rw [cast_col]
  refine (Ideal.multiReduction_add_single ..).trans ?_
  exact Finset.sum_congr rfl fun k _ => congrArg (fun i => z i * z i) (lift_row32 r k)

/-! ## The one-hot product -/

/-- The one-hot matrix is 1 at the chosen place and 0 elsewhere. -/
theorem onehot_apply {o : BitVec 32} {n : Nat} (ho : Ideal.ofBits .f32 o = ((n : ℕ) : ℝ)) {i : FVec Ideal S128x1 .f32}
    {r : Fin 128} {t : Nat} (hi : i (ix2 r 0) = (((t : ℕ) : ℝ) : EReal)) (k : Fin 2048) :
    (sitofp .f32 (onehot o i) : FVec Ideal S128x2048 .f32) (ix2 r k) = if k.val + n = t then (1 : EReal) else 0 := by
  rw [sitofp_apply]
  unfold onehot
  rw [extui_apply, cmpf_apply, bcast_col, bcast_row, laneAt_apply ho, hi]
  show ((((Ideal.cmp .oeq _ _).setWidth 32).toInt : ℝ) : EReal) = _
  by_cases h : k.val + n = t
  · rw [if_pos h, h]; simp [Ideal.cmp]
  · rw [if_neg h]
    have : ((((k.val + n : ℕ) : ℝ)) : EReal) ≠ (((t : ℕ) : ℝ) : EReal) := by
      intro e; exact h (by exact_mod_cast EReal.coe_injective e)
    simp only [Ideal.cmp, decide_eq_false this]
    simp

/-- A block adds the chosen row if it holds it, and zero if not. -/
theorem hit_apply {o : BitVec 32} {n : Nat} (ho : Ideal.ofBits .f32 o = ((n : ℕ) : ℝ)) {i : FVec Ideal S128x1 .f32}
    {r : Fin 128} {t : Nat} (hi : i (ix2 r 0) = (((t : ℕ) : ℝ) : EReal)) (e : Vec Ideal S2048x32 .f32) (j : Fin 32) (v : EReal)
    (hin : ∀ h : n ≤ t ∧ t < n + 2048, e (ix2 ⟨t - n, by omega⟩ j) = v) :
    hit o i e (ix2 r j) = if n ≤ t ∧ t < n + 2048 then v else 0 := by
  unfold hit
  rw [dot2_apply, shapeCast_self]
  have h1 : ∀ k : Fin 2048, (sitofp .f32 (onehot o i) : FVec Ideal S128x2048 .f32) (ix2 r k) * e (ix2 k j)
      = if k.val + n = t then (e (ix2 k j) : EReal) else 0 := fun k => by
    rw [onehot_apply ho hi]
    by_cases h : k.val + n = t
    · rw [if_pos h, if_pos h]; exact one_mul _
    · rw [if_neg h, if_neg h]; exact zero_mul _
  rw [Finset.sum_congr rfl fun k _ => h1 k]
  by_cases h : n ≤ t ∧ t < n + 2048
  · rw [if_pos h, ← hin h, Finset.sum_eq_single (⟨t - n, by omega⟩ : Fin 2048)]
    · rw [if_pos (show t - n + n = t by omega)]
    · intro k _ hk
      rw [if_neg]
      intro he
      exact hk (Fin.ext (by show k.val = t - n; omega))
    · intro hk; exact absurd (Finset.mem_univ _) hk
  · rw [if_neg h]
    refine Finset.sum_eq_zero fun k _ => ?_
    have := k.isLt
    rw [if_neg (by omega)]

end Cert.KernelIdeal.Steps
-- ==== Proof.TileVal.lean ====
/-
  A tile of the kernel, over the extended reals: each row's codes, its sum of codebook rows after each step, and the
  tile's summed errors, as the row's own search gives them.
-/
module

public import proofs.«01_k».proof.Proof.StepsAt
public import Idealize.ShloMosaic.Lib.Pipeline.ValueKit.Tiles

@[expose] public section

set_option maxRecDepth 16384

noncomputable section

open scoped BigOperators

namespace Cert.KernelIdeal.Steps

open Idealize.ShloMosaic Idealize.ShloMosaic.TcCoe Idealize.ShloMosaic.ValueIdx
open Cert.KernelIdeal Cert.KernelIdeal.Gen Cert.RQ

/-! ## The blocks of the codebook -/

/-- A block of 2048 rows cut out of the codebook. -/
theorem ld_emb (x1 : Vec Ideal S8192x32 .f32) (n : Nat) (inb) (hn : n + 2048 ≤ 8192) (k : Fin 2048) (j : Fin 32) :
    View.ld x1 (Rect.unit (s := S8192x32) ![n, 0] S2048x32.size inb) (ix2 k j)
      = x1 (ix2 ⟨k.val + n, by have := k.isLt; omega⟩ j) := by
  refine View.ld_unit_apply_of x1 _ _ inb _ _ fun a => ?_
  match a with
  | ⟨0, _⟩ => show k.val + n = n + k.val; omega
  | ⟨1, _⟩ => show j.val = 0 + j.val; omega

/-- The squared lengths of that block. -/
theorem ld_esq (x2 : Vec Ideal S1x8192 .f32) (n : Nat) (inb) (hn : n + 2048 ≤ 8192) (k : Fin 2048) :
    View.ld x2 (Rect.unit (s := S1x8192) ![0, n] S1x2048.size inb) (ix2 0 k)
      = x2 (ix2 0 ⟨k.val + n, by have := k.isLt; omega⟩) := by
  refine View.ld_unit_apply_of x2 _ _ inb _ _ fun a => ?_
  match a with
  | ⟨0, _⟩ => rfl
  | ⟨1, _⟩ => show k.val + n = n + k.val; omega

/-- The codebook the kernel holds, and a tile's row. -/
def book (x1 : Vec Ideal S8192x32 .f32) : Fin 8192 → Fin 32 → EReal := fun k j => x1 (ix2 k j)
/-- A row of a tile. -/
def row (z : Vec Ideal S128x32 .f32) (r : Fin 128) : Fin 32 → EReal := fun j => z (ix2 r j)

section Search
variable {x1 : Vec Ideal S8192x32 .f32} {x2 : Vec Ideal S1x8192 .f32}
  (h2 : ∀ k : Fin 8192, x2 (ix2 0 k) = ∑ j, book x1 k j * book x1 k j)
include h2

/-- The distances of a block are those of its part of the codebook. -/
theorem scores_at (z : FVec Ideal S128x32 .f32) (zz : FVec Ideal S128x1 .f32) (n : Nat) (inb inb') (hn : n + 2048 ≤ 8192)
    (r : Fin 128) (hz : zz (ix2 r 0) = Cert.RQ.sq (row z r)) (k : Fin 2048) :
    scores z zz (View.ld x1 (Rect.unit (s := S8192x32) ![n, 0] S2048x32.size inb))
      (View.ld x2 (Rect.unit (s := S1x8192) ![0, n] S1x2048.size inb')) (ix2 r k)
      = Cert.RQ.dist two (book x1) (Cert.RQ.sq (row z r)) (row z r) ⟨k.val + n, by have := k.isLt; omega⟩ := by
  rw [scores_apply, hz, ld_esq x2 n inb' hn, h2]
  unfold Cert.RQ.dist
  have e : ∀ j : Fin 32, (z (ix2 r j) * View.ld x1 (Rect.unit (s := S8192x32) ![n, 0] S2048x32.size inb) (ix2 k j) : EReal)
      = row z r j * book x1 ⟨k.val + n, by have := k.isLt; omega⟩ j := fun j => by rw [ld_emb x1 n inb hn]; rfl
  rw [Finset.sum_congr rfl fun j _ => e j]

/-- The search ends at the nearest codebook row. -/
theorem search_at (z : FVec Ideal S128x32 .f32) (zz : FVec Ideal S128x1 .f32) (r : Fin 128)
    (hz : zz (ix2 r 0) = Cert.RQ.sq (row z r)) :
    i4 z zz x1 x2 (ix2 r 0) = ((((pick two (book x1) (row z r)).val : ℕ) : ℝ) : EReal) := by
  have b0 := Run.start (Cert.RQ.dist two (book x1) (Cert.RQ.sq (row z r)) (row z r)) r
  have b1 := b0.block bits_zero (by omega) (s0 z zz x1 x2) (scores_at h2 z zz 0 _ _ (by omega) r hz)
  have b2 := b1.block bits_2048 (by omega) (s1 z zz x1 x2) (scores_at h2 z zz 2048 _ _ (by omega) r hz)
  have b3 := b2.block bits_4096 (by omega) (s2 z zz x1 x2) (scores_at h2 z zz 4096 _ _ (by omega) r hz)
  obtain ⟨t, hb, hi⟩ := b3.block bits_6144 (by omega) (s3 z zz x1 x2) (scores_at h2 z zz 6144 _ _ (by omega) r hz)
  have ht : t = (pick two (book x1) (row z r)).val := hb.near fun k => by have := k.isLt; omega
  rw [← ht]
  exact hi

end Search

/-- The one-hot products add up to the codebook row at the place. -/
theorem take_at (x1 : Vec Ideal S8192x32 .f32) (i : FVec Ideal S128x1 .f32) (r : Fin 128) (t : Fin 8192)
    (hi : i (ix2 r 0) = (((t.val : ℕ) : ℝ) : EReal)) (j : Fin 32) : q4 i x1 (ix2 r j) = book x1 t j := by
  have hh : ∀ (o : BitVec 32) (n : Nat) (inb) (_ : n + 2048 ≤ 8192) (_ : Ideal.ofBits .f32 o = ((n : ℕ) : ℝ)),
      hit o i (View.ld x1 (Rect.unit (s := S8192x32) ![n, 0] S2048x32.size inb)) (ix2 r j)
        = if n ≤ t.val ∧ t.val < n + 2048 then book x1 t j else 0 := fun o n inb hn ho =>
    hit_apply ho hi _ j _ fun h => by
      rw [ld_emb x1 n inb hn]
      refine congrArg (fun k => x1 (ix2 k j)) (Fin.ext ?_)
      show t.val - n + n = t.val
      omega
  have hz : (broadcast S128x32 (Scalar.ofBits .f32 0x00000000#32) : FVec Ideal S128x32 .f32) (ix2 r j) = (0 : EReal) :=
    Ideal.ofBits_zero_f32
  unfold q4 q3 q2 q1
  rw [addf_apply, addf_apply, addf_apply, addf_apply, hz, hh _ 0 _ (by omega) bits_zero, hh _ 2048 _ (by omega) bits_2048,
    hh _ 4096 _ (by omega) bits_4096, hh _ 6144 _ (by omega) bits_6144]
  have := t.isLt
  by_cases h1 : t.val < 2048
  · rw [if_pos (by omega), if_neg (by omega), if_neg (by omega), if_neg (by omega)]; simp
  · by_cases h2 : t.val < 4096
    · rw [if_neg (by omega), if_pos (by omega), if_neg (by omega), if_neg (by omega)]; simp
    · by_cases h3 : t.val < 6144
      · rw [if_neg (by omega), if_neg (by omega), if_pos (by omega), if_neg (by omega)]; simp
      · rw [if_neg (by omega), if_neg (by omega), if_neg (by omega), if_pos (by omega)]; simp

/-! ## The four steps of a tile -/

section Tile
variable {x0 : Vec Ideal S128x32 .f32} {x1 : Vec Ideal S8192x32 .f32} {x2 : Vec Ideal S1x8192 .f32} {x3 : Vec Ideal S128x1 .f32}
  (h2 : ∀ k : Fin 8192, x2 (ix2 0 k) = ∑ j, book x1 k j * book x1 k j)
  (h3 : ∀ r : Fin 128, x3 (ix2 r 0) = Cert.RQ.sq (row x0 r))

/-- The tile as loaded is the tile. -/
theorem z0_eq (x0 : Vec Ideal S128x32 .f32) : z0 x0 = x0 := by
  unfold z0
  refine (shapeCast_self _ _).trans ?_
  exact View.ld_unit_zero (by funext a; match a with | ⟨0, _⟩ => rfl | ⟨1, _⟩ => rfl) _ _
/-- The squared lengths as loaded are the squared lengths. -/
theorem w0_eq (x3 : Vec Ideal S128x1 .f32) : w0 x3 = x3 := by
  unfold w0
  refine (shapeCast_self _ _).trans ?_
  exact View.ld_unit_zero (by funext a; match a with | ⟨0, _⟩ => rfl | ⟨1, _⟩ => rfl) _ _

/-- Before the first step the residual is the row. -/
theorem row_z0 (r : Fin 128) : row (z0 x0) r = resid two (book x1) (row x0 r) 0 := by rw [z0_eq]; rfl

include h2

/-- A step that starts from what is left after `n` steps finds the code of step `n`. -/
theorem code_at {n : Nat} {z : FVec Ideal S128x32 .f32} {zz : FVec Ideal S128x1 .f32} {r : Fin 128}
    (hz : row z r = resid two (book x1) (row x0 r) n) (hzz : zz (ix2 r 0) = Cert.RQ.sq (row z r)) :
    i4 z zz x1 x2 (ix2 r 0) = ((((code two (book x1) (row x0 r) n).val : ℕ) : ℝ) : EReal) := by
  rw [search_at h2 z zz r hzz, hz]; rfl

omit h2 in
theorem row_sub {n : Nat} {z c' : FVec Ideal S128x32 .f32} {r : Fin 128} (hz : row z r = resid two (book x1) (row x0 r) n)
    (hc : ∀ j, c' (ix2 r j) = book x1 (code two (book x1) (row x0 r) n) j) :
    row (subf z c') r = resid two (book x1) (row x0 r) (n + 1) := by
  funext j
  show z (ix2 r j) - c' (ix2 r j) = _
  rw [hc]
  show row z r j - _ = _
  rw [hz]; rfl

omit h2 in
theorem row_add {n : Nat} {a c' : FVec Ideal S128x32 .f32} {r : Fin 128} (ha : row a r = agg two (book x1) (row x0 r) n)
    (hc : ∀ j, c' (ix2 r j) = book x1 (code two (book x1) (row x0 r) n) j) :
    row (addf a c') r = agg two (book x1) (row x0 r) (n + 1) := by
  funext j
  show a (ix2 r j) + c' (ix2 r j) = _
  rw [hc]
  show row a r j + _ = _
  rw [ha]; rfl

include h3

/-- After step 1: the code, the row fetched, the residual and the aggregate. -/
theorem c1_at (r : Fin 128) : c1 x0 x1 x2 x3 (ix2 r 0) = ((((code two (book x1) (row x0 r) 0).val : ℕ) : ℝ) : EReal) :=
  code_at h2 (row_z0 r) (by rw [z0_eq, w0_eq]; exact h3 r)
theorem r1_at (r : Fin 128) (j : Fin 32) : r1 x0 x1 x2 x3 (ix2 r j) = book x1 (code two (book x1) (row x0 r) 0) j :=
  take_at x1 _ r _ (c1_at h2 h3 r) j
theorem z1_at (r : Fin 128) : row (z1 x0 x1 x2 x3) r = resid two (book x1) (row x0 r) 1 := row_sub (row_z0 r) (r1_at h2 h3 r)
theorem a1_at (r : Fin 128) : row (a1 x0 x1 x2 x3) r = agg two (book x1) (row x0 r) 1 :=
  row_add (n := 0) (funext fun _ => Ideal.ofBits_zero_f32) (r1_at h2 h3 r)

/-- After step 2: the same. -/
theorem c2_at (r : Fin 128) : c2 x0 x1 x2 x3 (ix2 r 0) = ((((code two (book x1) (row x0 r) 1).val : ℕ) : ℝ) : EReal) :=
  code_at h2 (z1_at h2 h3 r) (sumsq_apply _ r 0)
theorem r2_at (r : Fin 128) (j : Fin 32) : r2 x0 x1 x2 x3 (ix2 r j) = book x1 (code two (book x1) (row x0 r) 1) j :=
  take_at x1 _ r _ (c2_at h2 h3 r) j
theorem z2_at (r : Fin 128) : row (z2 x0 x1 x2 x3) r = resid two (book x1) (row x0 r) 2 := row_sub (z1_at h2 h3 r) (r2_at h2 h3 r)
theorem a2_at (r : Fin 128) : row (a2 x0 x1 x2 x3) r = agg two (book x1) (row x0 r) 2 := row_add (a1_at h2 h3 r) (r2_at h2 h3 r)

/-- After step 3: the same. -/
theorem c3_at (r : Fin 128) : c3 x0 x1 x2 x3 (ix2 r 0) = ((((code two (book x1) (row x0 r) 2).val : ℕ) : ℝ) : EReal) :=
  code_at h2 (z2_at h2 h3 r) (sumsq_apply _ r 0)
theorem r3_at (r : Fin 128) (j : Fin 32) : r3 x0 x1 x2 x3 (ix2 r j) = book x1 (code two (book x1) (row x0 r) 2) j :=
  take_at x1 _ r _ (c3_at h2 h3 r) j
theorem z3_at (r : Fin 128) : row (z3 x0 x1 x2 x3) r = resid two (book x1) (row x0 r) 3 := row_sub (z2_at h2 h3 r) (r3_at h2 h3 r)
theorem a3_at (r : Fin 128) : row (a3 x0 x1 x2 x3) r = agg two (book x1) (row x0 r) 3 := row_add (a2_at h2 h3 r) (r3_at h2 h3 r)

/-- After step 4: the code, the row fetched and the aggregate. -/
theorem c4_at (r : Fin 128) : c4 x0 x1 x2 x3 (ix2 r 0) = ((((code two (book x1) (row x0 r) 3).val : ℕ) : ℝ) : EReal) :=
  code_at h2 (z3_at h2 h3 r) (sumsq_apply _ r 0)
theorem r4_at (r : Fin 128) (j : Fin 32) : r4 x0 x1 x2 x3 (ix2 r j) = book x1 (code two (book x1) (row x0 r) 3) j :=
  take_at x1 _ r _ (c4_at h2 h3 r) j
theorem a4_at (r : Fin 128) : row (a4 x0 x1 x2 x3) r = agg two (book x1) (row x0 r) 4 := row_add (a3_at h2 h3 r) (r4_at h2 h3 r)

/-! ## The tile's buffers -/

omit h2 h3 in
theorem cast_plane (v : Vec Ideal S128x32 .f32) (u : Fin 1) (r : Fin 128) (j : Fin 32) :
    shapeCast S1x128x32 v shapeCasts_S128x32_S1x128x32 (ix3 u r j) = v (ix2 r j) := by
  refine shapeCast_apply v _ _ _ ?_
  rw [Shape.rowMajor_val_two, Shape.rowMajor_val_three]
  show r.val * 32 + j.val = (u.val * 128 + r.val) * 32 + j.val
  omega

/-- The sums of the codebook rows after each step. -/
theorem out4_at (d : Fin 4) (r : Fin 128) (j : Fin 32) :
    out0_4 x0 x1 x2 x3 (ix3 d r j) = agg two (book x1) (row x0 r) (d.val + 1) j := by
  rw [out4_eq]
  refine (congrFun (View.canon_unit_zero (by funext a; match a with | ⟨0, _⟩ => rfl | ⟨1, _⟩ => rfl | ⟨2, _⟩ => rfl) _ _) _).trans ?_
  have key : ∀ (k : Nat) (hk : k < 4) (v : Vec Ideal S128x32 .f32) (hr : (S1x128x32).rank = (S4x128x32).rank),
      ∀ b : Fin S1x128x32.rank, b.cast hr ≠ 0 → ((ix3 0 r j : S1x128x32.Idx) b).val = ((ix3 ⟨k, hk⟩ r j : S4x128x32.Idx) (b.cast hr)).val := by
    intro k hk v hr b hb
    match b with
    | ⟨0, _⟩ => exact absurd rfl hb
    | ⟨1, _⟩ => rfl
    | ⟨2, _⟩ => rfl
  match d with
  | ⟨0, h⟩ =>
    exact Eq.trans (concatenate_apply_piece (t := S4x128x32) 0 _ _ _ 0 (by simp) S1x128x32 _ rfl rfl 0 rfl (ix3 0 r j) (key 0 h x0 rfl) rfl)
      ((cast_plane _ 0 r j).trans (congrFun (a1_at h2 h3 r) j))
  | ⟨1, h⟩ =>
    exact Eq.trans (concatenate_apply_piece (t := S4x128x32) 0 _ _ _ 1 (by simp) S1x128x32 _ rfl rfl 1 rfl (ix3 0 r j) (key 1 h x0 rfl) rfl)
      ((cast_plane _ 0 r j).trans (congrFun (a2_at h2 h3 r) j))
  | ⟨2, h⟩ =>
    exact Eq.trans (concatenate_apply_piece (t := S4x128x32) 0 _ _ _ 2 (by simp) S1x128x32 _ rfl rfl 2 rfl (ix3 0 r j) (key 2 h x0 rfl) rfl)
      ((cast_plane _ 0 r j).trans (congrFun (a3_at h2 h3 r) j))
  | ⟨3, h⟩ =>
    exact Eq.trans (concatenate_apply_piece (t := S4x128x32) 0 _ _ _ 3 (by simp) S1x128x32 _ rfl rfl 3 rfl (ix3 0 r j) (key 3 h x0 rfl) rfl)
      ((cast_plane _ 0 r j).trans (congrFun (a4_at h2 h3 r) j))

omit h2 h3 in
theorem word_at {c : FVec Ideal S128x1 .f32} {r : Fin 128} {t : Fin 8192} (h : c (ix2 r 0) = (((t.val : ℕ) : ℝ) : EReal)) :
    (fptosi 32 c : IVec S128x1 32) (ix2 r 0) = BitVec.ofNat 32 t.val := by
  show Ideal.fptosi 32 (c (ix2 r 0)) = _
  rw [h]; exact fptosi_place t.isLt

/-- The codes of each step. -/
theorem out5_at (r : Fin 128) (d : Fin 4) :
    out0_5 x0 x1 x2 x3 (ix2 r d) = BitVec.ofNat 32 (code two (book x1) (row x0 r) d.val).val := by
  rw [out5_eq]
  refine (congrFun (View.canon_unit_zero (by funext a; match a with | ⟨0, _⟩ => rfl | ⟨1, _⟩ => rfl) _ _) _).trans ?_
  have key : ∀ (k : Nat) (hk : k < 4) (hr : (S128x1).rank = (S128x4).rank),
      ∀ b : Fin S128x1.rank, b.cast hr ≠ 1 → ((ix2 r 0 : S128x1.Idx) b).val = ((ix2 r ⟨k, hk⟩ : S128x4.Idx) (b.cast hr)).val := by
    intro k hk hr b hb
    match b with
    | ⟨0, _⟩ => rfl
    | ⟨1, _⟩ => exact absurd rfl hb
  match d with
  | ⟨0, h⟩ =>
    exact Eq.trans (concatenate_apply_piece (t := S128x4) 1 _ _ _ 0 (by simp) S128x1 _ rfl rfl 0 rfl (ix2 r 0) (key 0 h rfl) rfl)
      (word_at (c1_at h2 h3 r))
  | ⟨1, h⟩ =>
    exact Eq.trans (concatenate_apply_piece (t := S128x4) 1 _ _ _ 1 (by simp) S128x1 _ rfl rfl 1 rfl (ix2 r 0) (key 1 h rfl) rfl)
      (word_at (c2_at h2 h3 r))
  | ⟨2, h⟩ =>
    exact Eq.trans (concatenate_apply_piece (t := S128x4) 1 _ _ _ 2 (by simp) S128x1 _ rfl rfl 2 rfl (ix2 r 0) (key 2 h rfl) rfl)
      (word_at (c3_at h2 h3 r))
  | ⟨3, h⟩ =>
    exact Eq.trans (concatenate_apply_piece (t := S128x4) 1 _ _ _ 3 (by simp) S128x1 _ rfl rfl 3 rfl (ix2 r 0) (key 3 h rfl) rfl)
      (word_at (c4_at h2 h3 r))

omit h2 h3 in
/-- A tile's error is the sum over its rows of the rows' squares. -/
theorem tileErr_eq (v : FVec Ideal S128x32 .f32) : tileErr v = ∑ r : Fin 128, Cert.RQ.sq (row v r) := by
  unfold tileErr extractAt
  refine (shapeCast_apply _ _ _ (ix1 0) ?_).trans ?_
  · rw [Shape.rowMajor_val_one, Shape.rowMajor_val_three]; rfl
  refine (Ideal.multiReduction_add_total _ _ _ (by decide) _ _ _).trans ?_
  refine (Equiv.sum_comp (Shape.reshapeEquiv shapeCasts_S128x32_S1x128x32) (mulf v v)).trans ?_
  rw [sum_idx2]
  rfl

omit h2 h3 in
theorem putErr_at (d : Nat) (hd : d < 128) (v : FVec Ideal S128x32 .f32) (l : FVec Ideal S1x128 .f32) (k : Fin 128) :
    putErr (BitVec.ofNat 32 d) v l (ix2 0 k) = if k.val = d then tileErr v else l (ix2 0 k) := by
  show Scalar.select (BitVec.ofBool (decide (iota .tc S1x128 32 [1] iota_S1x128_d1_w32 (ix2 0 k) = BitVec.ofNat 32 d))) _ _ = _
  rw [iota_single_apply]
  have e : (BitVec.ofNat 32 ((ix2 0 k : S1x128.Idx) 1).val = BitVec.ofNat 32 d) ↔ k.val = d := by
    constructor
    · intro h
      have h' := congrArg BitVec.toNat h
      rw [toNat_ofNat_small (by have := k.isLt; show k.val < _; omega), toNat_ofNat_small (by omega)] at h'
      exact h'
    · intro h; rw [← h]
  by_cases h : k.val = d
  · rw [if_pos h, decide_eq_true (e.mpr h)]; rfl
  · rw [if_neg h, decide_eq_false (fun h' => h (e.mp h'))]; rfl

omit h2 h3 in
theorem err_at {n : Nat} {a : FVec Ideal S128x32 .f32} (ha : ∀ r, row a r = agg two (book x1) (row x0 r) n) :
    tileErr (subf (z0 x0) a) = ∑ r : Fin 128, err two (book x1) (row x0 r) n := by
  rw [tileErr_eq, z0_eq]
  refine Finset.sum_congr rfl fun r _ => Finset.sum_congr rfl fun j _ => ?_
  have : row (subf x0 a) r j = row x0 r j - agg two (book x1) (row x0 r) n j := by
    rw [← ha]; rfl
  rw [this]

/-- The tile's errors after each step, at lanes 0 to 3. -/
theorem out6_at (d : Fin 4) :
    out0_6 x0 x1 x2 x3 (ix3 0 0 ⟨d.val, by have := d.isLt; omega⟩) = ∑ r : Fin 128, err two (book x1) (row x0 r) (d.val + 1) := by
  rw [out6_eq]
  refine (congrFun (View.canon_unit_zero (by funext a; match a with | ⟨0, _⟩ => rfl | ⟨1, _⟩ => rfl | ⟨2, _⟩ => rfl) _ _) _).trans ?_
  refine (shapeCast_apply _ _ _ (ix2 0 ⟨d.val, by have := d.isLt; omega⟩) ?_).trans ?_
  · rw [Shape.rowMajor_val_two, Shape.rowMajor_val_three]; rfl
  unfold l4 l3 l2 l1
  rw [putErr_at 3 (by omega), putErr_at 2 (by omega), putErr_at 1 (by omega), putErr_at 0 (by omega), err_at (a1_at h2 h3), err_at (a2_at h2 h3), err_at (a3_at h2 h3),
    err_at (a4_at h2 h3)]
  match d with
  | ⟨0, _⟩ => rfl
  | ⟨1, _⟩ => rfl
  | ⟨2, _⟩ => rfl
  | ⟨3, _⟩ => rfl

end Tile

end Cert.KernelIdeal.Steps
-- ==== Proof.Entry.lean ====
/-
  The arrays the kernel is entered with: the rows, the codebook with its last row dropped, and the sums of their squares.
-/
module

public import proofs.«01_k».proof.Proof.TileVal
public import Idealize.ShloMosaic.Lib.Pipeline.ValueKit
public import Idealize.ShloMosaic.Lib.StableHlo.Run

@[expose] public section

set_option maxRecDepth 16384

noncomputable section

open scoped BigOperators

namespace Cert.KernelIdeal.Entry

open Idealize.ShloMosaic Idealize.ShloMosaic.TcCoe Idealize.ShloMosaic.ValueIdx Idealize.SL.Sem
open Cert.KernelIdeal Cert.KernelIdeal.Gen Cert.RQ

variable (m : (ℓ : Loc nD τ sig) → Buf (Elt Ideal) ℓ) (c : Dev nD)

/-- The two arguments as launched. -/
abbrev arg0 : (⟨S8x32x32x32, .f32⟩ : BufTy).Contents (Elt Ideal) := m ((c.tc : Thread nD τ).loc main_arg0)
abbrev arg1 : (⟨S8193x32, .f32⟩ : BufTy).Contents (Elt Ideal) := m ((c.tc : Thread nD τ).loc main_arg1)

/-- The rows and the codebook they hold. -/
def rows (x : (⟨S8x32x32x32, .f32⟩ : BufTy).Contents (Elt Ideal)) : (⟨S8192x32, .f32⟩ : BufTy).Contents (Elt Ideal) :=
  shapeCast S8192x32 x shapeCasts_S8x32x32x32_S8192x32
def table (e : (⟨S8193x32, .f32⟩ : BufTy).Contents (Elt Ideal)) : (⟨S8192x32, .f32⟩ : BufTy).Contents (Elt Ideal) :=
  extractStridedSlice S8192x32 ![0, 0] e slices_S8193x32_S8192x32_0_0

/-- What the call is given: the rows, -/
theorem V_v0 : V m c main_v0 = rows (arg0 m c) := by
  simp only [V, V0, hostOps0, List.flatten_cons, List.flatten_nil, List.append_nil, List.cons_append, List.nil_append]; after_results; rfl
/-- the codebook without its last row, -/
theorem V_v1 : V m c main_v1 = table (arg1 m c) := by
  simp only [V, V0, hostOps0, List.flatten_cons, List.flatten_nil, List.append_nil, List.cons_append, List.nil_append]; after_results; rfl
/-- the squared lengths of the codebook, -/
theorem V_v4 : V m c main_v4 = broadcastInDim S1x8192 ![1] bcast_S8192_S1x8192_1
    (Host.reduceAdd (mulf (F := Ideal) (table (arg1 m c)) (table (arg1 m c))) (constant S_ .f32 0x00000000#32) reducesTo_S8192x32_S8192_d1 h_S_) := by
  simp only [V, V0, hostOps0, List.flatten_cons, List.flatten_nil, List.append_nil, List.cons_append, List.nil_append]; after_results; rfl
/-- and the squared lengths of the rows. -/
theorem V_v7 : V m c main_v7 = broadcastInDim S8192x1 ![0] bcast_S8192_S8192x1_0
    (Host.reduceAdd (mulf (F := Ideal) (rows (arg0 m c)) (rows (arg0 m c))) (constant S_ .f32 0x00000000#32) reducesTo_S8192x32_S8192_d1 h_S_) := by
  simp only [V, V0, hostOps0, List.flatten_cons, List.flatten_nil, List.append_nil, List.cons_append, List.nil_append]; after_results; rfl

end Cert.KernelIdeal.Entry
-- ==== Proof.RefRun.lean ====
/-
  The reference runs: its host operations in order, cut into the stretches its text falls into (for each of the four
  steps: the distances, the nearest entry, the entry taken, the residual and the sum brought up to date; then the codes,
  the four losses and the results), and what each stretch leaves in the buffers read after it.
-/
module

public import proofs.«01_k».proof.Proof.Gen.ReferenceIdeal
public import Idealize.ShloMosaic.Lib.StableHlo.Run
public import Idealize.ShloMosaic.PureOps.Ideal

@[expose] public section

set_option maxRecDepth 65536
set_option maxHeartbeats 4000000

noncomputable section

namespace Cert.ReferenceIdeal.Run

open Idealize.ShloMosaic Idealize.ShloMosaic.TcCoe Idealize.ShloMosaic.StableHlo Idealize.SL.Sem
open Cert.ReferenceIdeal Cert.ReferenceIdeal.Gen

variable {F : FTy → Type} [FloatOps F]

local notation "Op" => HloOp τ sig (Elt F)

/-- The operations of one search for the nearest entry. -/
abbrev argminOps (x : TRef sig ⟨S8192x8192, .f32⟩) (φ : fn_argmin.Bufs) : List Op :=
  [TRef.nullary φ.v0 (iotaInDim S8192x8192 32 1),
   TRef.nullary φ.cst (constant S_ .f32 0x7F800000#32),
   TRef.nullary φ.c (constantI S_ 32 0#32),
   TRef.quaternary x φ.v0 φ.cst φ.c φ.v1_0 (fun x y u v j => (Host.argReduce reducer_argmin_f32_i32 x y u v reducesTo_S8192x8192_S8192_d1 h_S_ j).1),
   TRef.quaternary x φ.v0 φ.cst φ.c φ.v1_1 (fun x y u v j => (Host.argReduce reducer_argmin_f32_i32 x y u v reducesTo_S8192x8192_S8192_d1 h_S_ j).2)]

/-- The operations that take the entries found. -/
abbrev takeOps (e : TRef sig ⟨S8192x32, .f32⟩) (i : TRef sig ⟨S8192, .i32⟩) (φ : fn_take.Bufs) : List Op :=
  [
TRef.nullary φ.c (constantI S_ 32 0#32),
   TRef.unary φ.c φ.v0 (broadcastInDim S8192 ![] bcast_S_S8192),
   TRef.binary i φ.v0 φ.v1 (cmpi .slt),
   TRef.nullary φ.c_0 (constantI S_ 32 8192#32),
   TRef.unary φ.c_0 φ.v2 (broadcastInDim S8192 ![] bcast_S_S8192),
   TRef.binary i φ.v2 φ.v3 addi,
   TRef.ternary φ.v1 φ.v3 i φ.call0.v0 select,
   TRef.unary φ.call0.v0 φ.v5 (broadcastInDim S8192x1 ![0] bcast_S8192_S8192x1_0),
   TRef.nullary φ.c_1 (constantI S1 32 8191#32),
   TRef.nullary φ.c_2 (constantI S_ 32 0#32),
   TRef.unary φ.c_2 φ.v6 (broadcastInDim S8192x1 ![] bcast_S_S8192x1),
   TRef.binary φ.v5 φ.v6 φ.v7 (cmpi .sge),
   TRef.unary φ.c_1 φ.v8 (broadcastInDim S1x1 ![1] bcast_S1_S1x1_1),
   TRef.unary φ.v8 φ.v9 (broadcastInDim S8192x1 ![0, 1] bcast_S1x1_S8192x1_0_1),
   TRef.binary φ.v5 φ.v9 φ.v10 (cmpi .sle),
   TRef.binary φ.v7 φ.v10 φ.v11 andi,
   TRef.nullary φ.c_3 (constantI S_ 1 1#1),
   TRef.binary φ.v11 φ.c_3 φ.v12 (fun x v => Host.reduce IntOp.andi x v reducesTo_S8192x1_S8192_d1 h_S_),
   TRef.binary e φ.v5 φ.v13 (fun x i => Host.gather gather_S8192x32_S8192x1_S8192x32_1_0_n_n_0_1_132 x i),
   TRef.unary φ.v12 φ.v14 (broadcastInDim S8192x32 ![0] bcast_S8192_S8192x32_0),
   TRef.nullary φ.cst (constant S_ .f32 0x7FC00000#32),
   TRef.unary φ.cst φ.v15 (broadcastInDim S8192x32 ![] bcast_S_S8192x32),
   TRef.ternary φ.v14 φ.v13 φ.v15 φ.v16 select]

abbrev head : List Op :=
  [unary main_arg1 main_v0 ((extractStridedSlice S8192x32 ![0, 0] · slices_S8193x32_S8192x32_0_0) : (⟨S8193x32, .f32⟩ : BufTy).Contents (Elt F) → (⟨S8192x32, .f32⟩ : BufTy).Contents (Elt F)),
   nullary main_cst (constant S_ .f32 0x00000000#32),
   unary main_cst main_v1 (broadcastInDim S8x32x32x32 ![] bcast_S_S8x32x32x32 : (⟨S_, .f32⟩ : BufTy).Contents (Elt F) → (⟨S8x32x32x32, .f32⟩ : BufTy).Contents (Elt F))]
abbrev headW : List (Ref sig .tc) := [main_v0, main_cst, main_v1]
theorem head_writes : (head (F := F)).Forall fun op => op.writes ⊆ (headW.map (Proc.devRef (τ := τ) .tc)).toFinset :=
  forall_writes_sub_of_map rfl
theorem head_fresh : (head (F := F)).Forall fun op => op.fresh = ∅ := forall_fresh_of_map rfl
theorem head_sub : (head (F := F)).Forall fun op => op.bufs ⊆ tcRefs τ sig :=
  ⟨unary_bufs_sub .., nullary_bufs_sub .., unary_bufs_sub ..⟩

abbrev dist0 : List Op :=
  [reshape main_arg0 main_v2 (rfl : (.f32 : EltTy) = .f32) shapeCasts_S8x32x32x32_S8192x32,
   binary main_v2 main_v2 main_v3 (mulf : (⟨S8192x32, .f32⟩ : BufTy).Contents (Elt F) → (⟨S8192x32, .f32⟩ : BufTy).Contents (Elt F) → (⟨S8192x32, .f32⟩ : BufTy).Contents (Elt F)),
   nullary main_cst_0 (constant S_ .f32 0x00000000#32),
   binary main_v3 main_cst_0 main_v4 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
   unary main_v4 main_v5 (broadcastInDim S8192x1 ![0] bcast_S8192_S8192x1_0 : (⟨S8192, .f32⟩ : BufTy).Contents (Elt F) → (⟨S8192x1, .f32⟩ : BufTy).Contents (Elt F)),
   binary main_v0 main_v0 main_v6 (mulf : (⟨S8192x32, .f32⟩ : BufTy).Contents (Elt F) → (⟨S8192x32, .f32⟩ : BufTy).Contents (Elt F) → (⟨S8192x32, .f32⟩ : BufTy).Contents (Elt F)),
   nullary main_cst_1 (constant S_ .f32 0x00000000#32),
   binary main_v6 main_cst_1 main_v7 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
   unary main_v7 main_v8 (broadcastInDim S1x8192 ![1] bcast_S8192_S1x8192_1 : (⟨S8192, .f32⟩ : BufTy).Contents (Elt F) → (⟨S1x8192, .f32⟩ : BufTy).Contents (Elt F)),
   unary main_v5 main_v9 (broadcastInDim S8192x8192 ![0, 1] bcast_S8192x1_S8192x8192_0_1 : (⟨S8192x1, .f32⟩ : BufTy).Contents (Elt F) → (⟨S8192x8192, .f32⟩ : BufTy).Contents (Elt F)),
   unary main_v8 main_v10 (broadcastInDim S8192x8192 ![0, 1] bcast_S1x8192_S8192x8192_0_1 : (⟨S1x8192, .f32⟩ : BufTy).Contents (Elt F) → (⟨S8192x8192, .f32⟩ : BufTy).Contents (Elt F)),
   binary main_v9 main_v10 main_v11 (addf : (⟨S8192x8192, .f32⟩ : BufTy).Contents (Elt F) → (⟨S8192x8192, .f32⟩ : BufTy).Contents (Elt F) → (⟨S8192x8192, .f32⟩ : BufTy).Contents (Elt F)),
   unary main_v0 main_v12 ((transpose S32x8192 [1, 0] · transposes_S8192x32_S32x8192_1_0) : (⟨S8192x32, .f32⟩ : BufTy).Contents (Elt F) → (⟨S32x8192, .f32⟩ : BufTy).Contents (Elt F)),
   binary main_v2 main_v12 main_v13 ((fun l r => Host.dotGeneral dot_S8192x32_S32x8192_S8192x8192_1_0_0_1_n_n none l r) : (⟨S8192x32, .f32⟩ : BufTy).Contents (Elt F) → (⟨S32x8192, .f32⟩ : BufTy).Contents (Elt F) → (⟨S8192x8192, .f32⟩ : BufTy).Contents (Elt F)),
   nullary main_cst_2 (constant S_ .f32 0x40000000#32),
   unary main_cst_2 main_v14 (broadcastInDim S8192x8192 ![] bcast_S_S8192x8192 : (⟨S_, .f32⟩ : BufTy).Contents (Elt F) → (⟨S8192x8192, .f32⟩ : BufTy).Contents (Elt F)),
   binary main_v14 main_v13 main_v15 (mulf : (⟨S8192x8192, .f32⟩ : BufTy).Contents (Elt F) → (⟨S8192x8192, .f32⟩ : BufTy).Contents (Elt F) → (⟨S8192x8192, .f32⟩ : BufTy).Contents (Elt F)),
   binary main_v11 main_v15 main_v16 (subf : (⟨S8192x8192, .f32⟩ : BufTy).Contents (Elt F) → (⟨S8192x8192, .f32⟩ : BufTy).Contents (Elt F) → (⟨S8192x8192, .f32⟩ : BufTy).Contents (Elt F))]
abbrev dist0W : List (Ref sig .tc) := [main_v2, main_v3, main_cst_0, main_v4, main_v5, main_v6, main_cst_1, main_v7, main_v8, main_v9, main_v10, main_v11, main_v12, main_v13, main_cst_2, main_v14, main_v15, main_v16]
theorem dist0_writes : (dist0 (F := F)).Forall fun op => op.writes ⊆ (dist0W.map (Proc.devRef (τ := τ) .tc)).toFinset :=
  forall_writes_sub_of_map rfl
theorem dist0_fresh : (dist0 (F := F)).Forall fun op => op.fresh = ∅ := forall_fresh_of_map rfl
theorem dist0_sub : (dist0 (F := F)).Forall fun op => op.bufs ⊆ tcRefs τ sig :=
  ⟨reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub ..⟩

abbrev arg0 : List Op := argminOps (.of main_v16) main_call0
abbrev arg0W : List (Ref sig .tc) := [main_call0_v0, main_call0_cst, main_call0_c, main_call0_v1_0, main_v17]
theorem arg0_writes : (arg0 (F := F)).Forall fun op => op.writes ⊆ (arg0W.map (Proc.devRef (τ := τ) .tc)).toFinset :=
  forall_writes_sub_of_map rfl
theorem arg0_fresh : (arg0 (F := F)).Forall fun op => op.fresh = ∅ := forall_fresh_of_map rfl
theorem arg0_sub : (arg0 (F := F)).Forall fun op => op.bufs ⊆ tcRefs τ sig :=
  ⟨nullary_bufs_sub .., nullary_bufs_sub .., nullary_bufs_sub .., quaternary_bufs_sub .., quaternary_bufs_sub ..⟩

abbrev take0 : List Op := takeOps (.of main_v0) (.of main_v17) main_call1
abbrev take0W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v18]
theorem take0_writes : (take0 (F := F)).Forall fun op => op.writes ⊆ (take0W.map (Proc.devRef (τ := τ) .tc)).toFinset :=
  forall_writes_sub_of_map rfl
theorem take0_fresh : (take0 (F := F)).Forall fun op => op.fresh = ∅ := forall_fresh_of_map rfl
theorem take0_sub : (take0 (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

abbrev upd0 : List Op :=
  [reshape main_v18 main_v19 (rfl : (.f32 : EltTy) = .f32) shapeCasts_S8192x32_S8x32x32x32,
   binary main_arg0 main_v19 main_v20 (subf : (⟨S8x32x32x32, .f32⟩ : BufTy).Contents (Elt F) → (⟨S8x32x32x32, .f32⟩ : BufTy).Contents (Elt F) → (⟨S8x32x32x32, .f32⟩ : BufTy).Contents (Elt F)),
   binary main_v1 main_v19 main_v21 (addf : (⟨S8x32x32x32, .f32⟩ : BufTy).Contents (Elt F) → (⟨S8x32x32x32, .f32⟩ : BufTy).Contents (Elt F) → (⟨S8x32x32x32, .f32⟩ : BufTy).Contents (Elt F)),
   reshape main_v17 main_v22 (rfl : (.i32 : EltTy) = .i32) shapeCasts_S8192_S8x32x32x1]
abbrev upd0W : List (Ref sig .tc) := [main_v19, main_v20, main_v21, main_v22]
theorem upd0_writes : (upd0 (F := F)).Forall fun op => op.writes ⊆ (upd0W.map (Proc.devRef (τ := τ) .tc)).toFinset :=
  forall_writes_sub_of_map rfl
theorem upd0_fresh : (upd0 (F := F)).Forall fun op => op.fresh = ∅ := forall_fresh_of_map rfl
theorem upd0_sub : (upd0 (F := F)).Forall fun op => op.bufs ⊆ tcRefs τ sig :=
  ⟨reshape_bufs_sub .., binary_bufs_sub .., binary_bufs_sub .., reshape_bufs_sub ..⟩

abbrev dist1 : List Op :=
  [reshape main_v20 main_v23 (rfl : (.f32 : EltTy) = .f32) shapeCasts_S8x32x32x32_S8192x32,
   binary main_v23 main_v23 main_v24 (mulf : (⟨S8192x32, .f32⟩ : BufTy).Contents (Elt F) → (⟨S8192x32, .f32⟩ : BufTy).Contents (Elt F) → (⟨S8192x32, .f32⟩ : BufTy).Contents (Elt F)),
   nullary main_cst_3 (constant S_ .f32 0x00000000#32),
   binary main_v24 main_cst_3 main_v25 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
   unary main_v25 main_v26 (broadcastInDim S8192x1 ![0] bcast_S8192_S8192x1_0 : (⟨S8192, .f32⟩ : BufTy).Contents (Elt F) → (⟨S8192x1, .f32⟩ : BufTy).Contents (Elt F)),
   binary main_v0 main_v0 main_v27 (mulf : (⟨S8192x32, .f32⟩ : BufTy).Contents (Elt F) → (⟨S8192x32, .f32⟩ : BufTy).Contents (Elt F) → (⟨S8192x32, .f32⟩ : BufTy).Contents (Elt F)),
   nullary main_cst_4 (constant S_ .f32 0x00000000#32),
   binary main_v27 main_cst_4 main_v28 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
   unary main_v28 main_v29 (broadcastInDim S1x8192 ![1] bcast_S8192_S1x8192_1 : (⟨S8192, .f32⟩ : BufTy).Contents (Elt F) → (⟨S1x8192, .f32⟩ : BufTy).Contents (Elt F)),
   unary main_v26 main_v30 (broadcastInDim S8192x8192 ![0, 1] bcast_S8192x1_S8192x8192_0_1 : (⟨S8192x1, .f32⟩ : BufTy).Contents (Elt F) → (⟨S8192x8192, .f32⟩ : BufTy).Contents (Elt F)),
   unary main_v29 main_v31 (broadcastInDim S8192x8192 ![0, 1] bcast_S1x8192_S8192x8192_0_1 : (⟨S1x8192, .f32⟩ : BufTy).Contents (Elt F) → (⟨S8192x8192, .f32⟩ : BufTy).Contents (Elt F)),
   binary main_v30 main_v31 main_v32 (addf : (⟨S8192x8192, .f32⟩ : BufTy).Contents (Elt F) → (⟨S8192x8192, .f32⟩ : BufTy).Contents (Elt F) → (⟨S8192x8192, .f32⟩ : BufTy).Contents (Elt F)),
   unary main_v0 main_v33 ((transpose S32x8192 [1, 0] · transposes_S8192x32_S32x8192_1_0) : (⟨S8192x32, .f32⟩ : BufTy).Contents (Elt F) → (⟨S32x8192, .f32⟩ : BufTy).Contents (Elt F)),
   binary main_v23 main_v33 main_v34 ((fun l r => Host.dotGeneral dot_S8192x32_S32x8192_S8192x8192_1_0_0_1_n_n none l r) : (⟨S8192x32, .f32⟩ : BufTy).Contents (Elt F) → (⟨S32x8192, .f32⟩ : BufTy).Contents (Elt F) → (⟨S8192x8192, .f32⟩ : BufTy).Contents (Elt F)),
   nullary main_cst_5 (constant S_ .f32 0x40000000#32),
   unary main_cst_5 main_v35 (broadcastInDim S8192x8192 ![] bcast_S_S8192x8192 : (⟨S_, .f32⟩ : BufTy).Contents (Elt F) → (⟨S8192x8192, .f32⟩ : BufTy).Contents (Elt F)),
   binary main_v35 main_v34 main_v36 (mulf : (⟨S8192x8192, .f32⟩ : BufTy).Contents (Elt F) → (⟨S8192x8192, .f32⟩ : BufTy).Contents (Elt F) → (⟨S8192x8192, .f32⟩ : BufTy).Contents (Elt F)),
   binary main_v32 main_v36 main_v37 (subf : (⟨S8192x8192, .f32⟩ : BufTy).Contents (Elt F) → (⟨S8192x8192, .f32⟩ : BufTy).Contents (Elt F) → (⟨S8192x8192, .f32⟩ : BufTy).Contents (Elt F))]
abbrev dist1W : List (Ref sig .tc) := [main_v23, main_v24, main_cst_3, main_v25, main_v26, main_v27, main_cst_4, main_v28, main_v29, main_v30, main_v31, main_v32, main_v33, main_v34, main_cst_5, main_v35, main_v36, main_v37]
theorem dist1_writes : (dist1 (F := F)).Forall fun op => op.writes ⊆ (dist1W.map (Proc.devRef (τ := τ) .tc)).toFinset :=
  forall_writes_sub_of_map rfl
theorem dist1_fresh : (dist1 (F := F)).Forall fun op => op.fresh = ∅ := forall_fresh_of_map rfl
theorem dist1_sub : (dist1 (F := F)).Forall fun op => op.bufs ⊆ tcRefs τ sig :=
  ⟨reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub ..⟩

abbrev arg1 : List Op := argminOps (.of main_v37) main_call2
abbrev arg1W : List (Ref sig .tc) := [main_call2_v0, main_call2_cst, main_call2_c, main_call2_v1_0, main_v38]
theorem arg1_writes : (arg1 (F := F)).Forall fun op => op.writes ⊆ (arg1W.map (Proc.devRef (τ := τ) .tc)).toFinset :=
  forall_writes_sub_of_map rfl
theorem arg1_fresh : (arg1 (F := F)).Forall fun op => op.fresh = ∅ := forall_fresh_of_map rfl
theorem arg1_sub : (arg1 (F := F)).Forall fun op => op.bufs ⊆ tcRefs τ sig :=
  ⟨nullary_bufs_sub .., nullary_bufs_sub .., nullary_bufs_sub .., quaternary_bufs_sub .., quaternary_bufs_sub ..⟩

abbrev take1 : List Op := takeOps (.of main_v0) (.of main_v38) main_call3
abbrev take1W : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v39]
theorem take1_writes : (take1 (F := F)).Forall fun op => op.writes ⊆ (take1W.map (Proc.devRef (τ := τ) .tc)).toFinset :=
  forall_writes_sub_of_map rfl
theorem take1_fresh : (take1 (F := F)).Forall fun op => op.fresh = ∅ := forall_fresh_of_map rfl
theorem take1_sub : (take1 (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

abbrev upd1 : List Op :=
  [reshape main_v39 main_v40 (rfl : (.f32 : EltTy) = .f32) shapeCasts_S8192x32_S8x32x32x32,
   binary main_v20 main_v40 main_v41 (subf : (⟨S8x32x32x32, .f32⟩ : BufTy).Contents (Elt F) → (⟨S8x32x32x32, .f32⟩ : BufTy).Contents (Elt F) → (⟨S8x32x32x32, .f32⟩ : BufTy).Contents (Elt F)),
   binary main_v21 main_v40 main_v42 (addf : (⟨S8x32x32x32, .f32⟩ : BufTy).Contents (Elt F) → (⟨S8x32x32x32, .f32⟩ : BufTy).Contents (Elt F) → (⟨S8x32x32x32, .f32⟩ : BufTy).Contents (Elt F)),
   reshape main_v38 main_v43 (rfl : (.i32 : EltTy) = .i32) shapeCasts_S8192_S8x32x32x1]
abbrev upd1W : List (Ref sig .tc) := [main_v40, main_v41, main_v42, main_v43]
theorem upd1_writes : (upd1 (F := F)).Forall fun op => op.writes ⊆ (upd1W.map (Proc.devRef (τ := τ) .tc)).toFinset :=
  forall_writes_sub_of_map rfl
theorem upd1_fresh : (upd1 (F := F)).Forall fun op => op.fresh = ∅ := forall_fresh_of_map rfl
theorem upd1_sub : (upd1 (F := F)).Forall fun op => op.bufs ⊆ tcRefs τ sig :=
  ⟨reshape_bufs_sub .., binary_bufs_sub .., binary_bufs_sub .., reshape_bufs_sub ..⟩

abbrev dist2 : List Op :=
  [reshape main_v41 main_v44 (rfl : (.f32 : EltTy) = .f32) shapeCasts_S8x32x32x32_S8192x32,
   binary main_v44 main_v44 main_v45 (mulf : (⟨S8192x32, .f32⟩ : BufTy).Contents (Elt F) → (⟨S8192x32, .f32⟩ : BufTy).Contents (Elt F) → (⟨S8192x32, .f32⟩ : BufTy).Contents (Elt F)),
   nullary main_cst_6 (constant S_ .f32 0x00000000#32),
   binary main_v45 main_cst_6 main_v46 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
   unary main_v46 main_v47 (broadcastInDim S8192x1 ![0] bcast_S8192_S8192x1_0 : (⟨S8192, .f32⟩ : BufTy).Contents (Elt F) → (⟨S8192x1, .f32⟩ : BufTy).Contents (Elt F)),
   binary main_v0 main_v0 main_v48 (mulf : (⟨S8192x32, .f32⟩ : BufTy).Contents (Elt F) → (⟨S8192x32, .f32⟩ : BufTy).Contents (Elt F) → (⟨S8192x32, .f32⟩ : BufTy).Contents (Elt F)),
   nullary main_cst_7 (constant S_ .f32 0x00000000#32),
   binary main_v48 main_cst_7 main_v49 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
   unary main_v49 main_v50 (broadcastInDim S1x8192 ![1] bcast_S8192_S1x8192_1 : (⟨S8192, .f32⟩ : BufTy).Contents (Elt F) → (⟨S1x8192, .f32⟩ : BufTy).Contents (Elt F)),
   unary main_v47 main_v51 (broadcastInDim S8192x8192 ![0, 1] bcast_S8192x1_S8192x8192_0_1 : (⟨S8192x1, .f32⟩ : BufTy).Contents (Elt F) → (⟨S8192x8192, .f32⟩ : BufTy).Contents (Elt F)),
   unary main_v50 main_v52 (broadcastInDim S8192x8192 ![0, 1] bcast_S1x8192_S8192x8192_0_1 : (⟨S1x8192, .f32⟩ : BufTy).Contents (Elt F) → (⟨S8192x8192, .f32⟩ : BufTy).Contents (Elt F)),
   binary main_v51 main_v52 main_v53 (addf : (⟨S8192x8192, .f32⟩ : BufTy).Contents (Elt F) → (⟨S8192x8192, .f32⟩ : BufTy).Contents (Elt F) → (⟨S8192x8192, .f32⟩ : BufTy).Contents (Elt F)),
   unary main_v0 main_v54 ((transpose S32x8192 [1, 0] · transposes_S8192x32_S32x8192_1_0) : (⟨S8192x32, .f32⟩ : BufTy).Contents (Elt F) → (⟨S32x8192, .f32⟩ : BufTy).Contents (Elt F)),
   binary main_v44 main_v54 main_v55 ((fun l r => Host.dotGeneral dot_S8192x32_S32x8192_S8192x8192_1_0_0_1_n_n none l r) : (⟨S8192x32, .f32⟩ : BufTy).Contents (Elt F) → (⟨S32x8192, .f32⟩ : BufTy).Contents (Elt F) → (⟨S8192x8192, .f32⟩ : BufTy).Contents (Elt F)),
   nullary main_cst_8 (constant S_ .f32 0x40000000#32),
   unary main_cst_8 main_v56 (broadcastInDim S8192x8192 ![] bcast_S_S8192x8192 : (⟨S_, .f32⟩ : BufTy).Contents (Elt F) → (⟨S8192x8192, .f32⟩ : BufTy).Contents (Elt F)),
   binary main_v56 main_v55 main_v57 (mulf : (⟨S8192x8192, .f32⟩ : BufTy).Contents (Elt F) → (⟨S8192x8192, .f32⟩ : BufTy).Contents (Elt F) → (⟨S8192x8192, .f32⟩ : BufTy).Contents (Elt F)),
   binary main_v53 main_v57 main_v58 (subf : (⟨S8192x8192, .f32⟩ : BufTy).Contents (Elt F) → (⟨S8192x8192, .f32⟩ : BufTy).Contents (Elt F) → (⟨S8192x8192, .f32⟩ : BufTy).Contents (Elt F))]
abbrev dist2W : List (Ref sig .tc) := [main_v44, main_v45, main_cst_6, main_v46, main_v47, main_v48, main_cst_7, main_v49, main_v50, main_v51, main_v52, main_v53, main_v54, main_v55, main_cst_8, main_v56, main_v57, main_v58]
theorem dist2_writes : (dist2 (F := F)).Forall fun op => op.writes ⊆ (dist2W.map (Proc.devRef (τ := τ) .tc)).toFinset :=
  forall_writes_sub_of_map rfl
theorem dist2_fresh : (dist2 (F := F)).Forall fun op => op.fresh = ∅ := forall_fresh_of_map rfl
theorem dist2_sub : (dist2 (F := F)).Forall fun op => op.bufs ⊆ tcRefs τ sig :=
  ⟨reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub ..⟩

abbrev arg2 : List Op := argminOps (.of main_v58) main_call4
abbrev arg2W : List (Ref sig .tc) := [main_call4_v0, main_call4_cst, main_call4_c, main_call4_v1_0, main_v59]
theorem arg2_writes : (arg2 (F := F)).Forall fun op => op.writes ⊆ (arg2W.map (Proc.devRef (τ := τ) .tc)).toFinset :=
  forall_writes_sub_of_map rfl
theorem arg2_fresh : (arg2 (F := F)).Forall fun op => op.fresh = ∅ := forall_fresh_of_map rfl
theorem arg2_sub : (arg2 (F := F)).Forall fun op => op.bufs ⊆ tcRefs τ sig :=
  ⟨nullary_bufs_sub .., nullary_bufs_sub .., nullary_bufs_sub .., quaternary_bufs_sub .., quaternary_bufs_sub ..⟩

abbrev take2 : List Op := takeOps (.of main_v0) (.of main_v59) main_call5
abbrev take2W : List (Ref sig .tc) := [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v60]
theorem take2_writes : (take2 (F := F)).Forall fun op => op.writes ⊆ (take2W.map (Proc.devRef (τ := τ) .tc)).toFinset :=
  forall_writes_sub_of_map rfl
theorem take2_fresh : (take2 (F := F)).Forall fun op => op.fresh = ∅ := forall_fresh_of_map rfl
theorem take2_sub : (take2 (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

abbrev upd2 : List Op :=
  [reshape main_v60 main_v61 (rfl : (.f32 : EltTy) = .f32) shapeCasts_S8192x32_S8x32x32x32,
   binary main_v41 main_v61 main_v62 (subf : (⟨S8x32x32x32, .f32⟩ : BufTy).Contents (Elt F) → (⟨S8x32x32x32, .f32⟩ : BufTy).Contents (Elt F) → (⟨S8x32x32x32, .f32⟩ : BufTy).Contents (Elt F)),
   binary main_v42 main_v61 main_v63 (addf : (⟨S8x32x32x32, .f32⟩ : BufTy).Contents (Elt F) → (⟨S8x32x32x32, .f32⟩ : BufTy).Contents (Elt F) → (⟨S8x32x32x32, .f32⟩ : BufTy).Contents (Elt F)),
   reshape main_v59 main_v64 (rfl : (.i32 : EltTy) = .i32) shapeCasts_S8192_S8x32x32x1]
abbrev upd2W : List (Ref sig .tc) := [main_v61, main_v62, main_v63, main_v64]
theorem upd2_writes : (upd2 (F := F)).Forall fun op => op.writes ⊆ (upd2W.map (Proc.devRef (τ := τ) .tc)).toFinset :=
  forall_writes_sub_of_map rfl
theorem upd2_fresh : (upd2 (F := F)).Forall fun op => op.fresh = ∅ := forall_fresh_of_map rfl
theorem upd2_sub : (upd2 (F := F)).Forall fun op => op.bufs ⊆ tcRefs τ sig :=
  ⟨reshape_bufs_sub .., binary_bufs_sub .., binary_bufs_sub .., reshape_bufs_sub ..⟩

abbrev dist3 : List Op :=
  [reshape main_v62 main_v65 (rfl : (.f32 : EltTy) = .f32) shapeCasts_S8x32x32x32_S8192x32,
   binary main_v65 main_v65 main_v66 (mulf : (⟨S8192x32, .f32⟩ : BufTy).Contents (Elt F) → (⟨S8192x32, .f32⟩ : BufTy).Contents (Elt F) → (⟨S8192x32, .f32⟩ : BufTy).Contents (Elt F)),
   nullary main_cst_9 (constant S_ .f32 0x00000000#32),
   binary main_v66 main_cst_9 main_v67 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
   unary main_v67 main_v68 (broadcastInDim S8192x1 ![0] bcast_S8192_S8192x1_0 : (⟨S8192, .f32⟩ : BufTy).Contents (Elt F) → (⟨S8192x1, .f32⟩ : BufTy).Contents (Elt F)),
   binary main_v0 main_v0 main_v69 (mulf : (⟨S8192x32, .f32⟩ : BufTy).Contents (Elt F) → (⟨S8192x32, .f32⟩ : BufTy).Contents (Elt F) → (⟨S8192x32, .f32⟩ : BufTy).Contents (Elt F)),
   nullary main_cst_10 (constant S_ .f32 0x00000000#32),
   binary main_v69 main_cst_10 main_v70 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
   unary main_v70 main_v71 (broadcastInDim S1x8192 ![1] bcast_S8192_S1x8192_1 : (⟨S8192, .f32⟩ : BufTy).Contents (Elt F) → (⟨S1x8192, .f32⟩ : BufTy).Contents (Elt F)),
   unary main_v68 main_v72 (broadcastInDim S8192x8192 ![0, 1] bcast_S8192x1_S8192x8192_0_1 : (⟨S8192x1, .f32⟩ : BufTy).Contents (Elt F) → (⟨S8192x8192, .f32⟩ : BufTy).Contents (Elt F)),
   unary main_v71 main_v73 (broadcastInDim S8192x8192 ![0, 1] bcast_S1x8192_S8192x8192_0_1 : (⟨S1x8192, .f32⟩ : BufTy).Contents (Elt F) → (⟨S8192x8192, .f32⟩ : BufTy).Contents (Elt F)),
   binary main_v72 main_v73 main_v74 (addf : (⟨S8192x8192, .f32⟩ : BufTy).Contents (Elt F) → (⟨S8192x8192, .f32⟩ : BufTy).Contents (Elt F) → (⟨S8192x8192, .f32⟩ : BufTy).Contents (Elt F)),
   unary main_v0 main_v75 ((transpose S32x8192 [1, 0] · transposes_S8192x32_S32x8192_1_0) : (⟨S8192x32, .f32⟩ : BufTy).Contents (Elt F) → (⟨S32x8192, .f32⟩ : BufTy).Contents (Elt F)),
   binary main_v65 main_v75 main_v76 ((fun l r => Host.dotGeneral dot_S8192x32_S32x8192_S8192x8192_1_0_0_1_n_n none l r) : (⟨S8192x32, .f32⟩ : BufTy).Contents (Elt F) → (⟨S32x8192, .f32⟩ : BufTy).Contents (Elt F) → (⟨S8192x8192, .f32⟩ : BufTy).Contents (Elt F)),
   nullary main_cst_11 (constant S_ .f32 0x40000000#32),
   unary main_cst_11 main_v77 (broadcastInDim S8192x8192 ![] bcast_S_S8192x8192 : (⟨S_, .f32⟩ : BufTy).Contents (Elt F) → (⟨S8192x8192, .f32⟩ : BufTy).Contents (Elt F)),
   binary main_v77 main_v76 main_v78 (mulf : (⟨S8192x8192, .f32⟩ : BufTy).Contents (Elt F) → (⟨S8192x8192, .f32⟩ : BufTy).Contents (Elt F) → (⟨S8192x8192, .f32⟩ : BufTy).Contents (Elt F)),
   binary main_v74 main_v78 main_v79 (subf : (⟨S8192x8192, .f32⟩ : BufTy).Contents (Elt F) → (⟨S8192x8192, .f32⟩ : BufTy).Contents (Elt F) → (⟨S8192x8192, .f32⟩ : BufTy).Contents (Elt F))]
abbrev dist3W : List (Ref sig .tc) := [main_v65, main_v66, main_cst_9, main_v67, main_v68, main_v69, main_cst_10, main_v70, main_v71, main_v72, main_v73, main_v74, main_v75, main_v76, main_cst_11, main_v77, main_v78, main_v79]
theorem dist3_writes : (dist3 (F := F)).Forall fun op => op.writes ⊆ (dist3W.map (Proc.devRef (τ := τ) .tc)).toFinset :=
  forall_writes_sub_of_map rfl
theorem dist3_fresh : (dist3 (F := F)).Forall fun op => op.fresh = ∅ := forall_fresh_of_map rfl
theorem dist3_sub : (dist3 (F := F)).Forall fun op => op.bufs ⊆ tcRefs τ sig :=
  ⟨reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub ..⟩

abbrev arg3 : List Op := argminOps (.of main_v79) main_call6
abbrev arg3W : List (Ref sig .tc) := [main_call6_v0, main_call6_cst, main_call6_c, main_call6_v1_0, main_v80]
theorem arg3_writes : (arg3 (F := F)).Forall fun op => op.writes ⊆ (arg3W.map (Proc.devRef (τ := τ) .tc)).toFinset :=
  forall_writes_sub_of_map rfl
theorem arg3_fresh : (arg3 (F := F)).Forall fun op => op.fresh = ∅ := forall_fresh_of_map rfl
theorem arg3_sub : (arg3 (F := F)).Forall fun op => op.bufs ⊆ tcRefs τ sig :=
  ⟨nullary_bufs_sub .., nullary_bufs_sub .., nullary_bufs_sub .., quaternary_bufs_sub .., quaternary_bufs_sub ..⟩

abbrev take3 : List Op := takeOps (.of main_v0) (.of main_v80) main_call7
abbrev take3W : List (Ref sig .tc) := [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_v14, main_call7_cst, main_call7_v15, main_v81]
theorem take3_writes : (take3 (F := F)).Forall fun op => op.writes ⊆ (take3W.map (Proc.devRef (τ := τ) .tc)).toFinset :=
  forall_writes_sub_of_map rfl
theorem take3_fresh : (take3 (F := F)).Forall fun op => op.fresh = ∅ := forall_fresh_of_map rfl
theorem take3_sub : (take3 (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

abbrev upd3 : List Op :=
  [reshape main_v81 main_v82 (rfl : (.f32 : EltTy) = .f32) shapeCasts_S8192x32_S8x32x32x32,
   binary main_v62 main_v82 main_v83 (subf : (⟨S8x32x32x32, .f32⟩ : BufTy).Contents (Elt F) → (⟨S8x32x32x32, .f32⟩ : BufTy).Contents (Elt F) → (⟨S8x32x32x32, .f32⟩ : BufTy).Contents (Elt F)),
   binary main_v63 main_v82 main_v84 (addf : (⟨S8x32x32x32, .f32⟩ : BufTy).Contents (Elt F) → (⟨S8x32x32x32, .f32⟩ : BufTy).Contents (Elt F) → (⟨S8x32x32x32, .f32⟩ : BufTy).Contents (Elt F)),
   reshape main_v80 main_v85 (rfl : (.i32 : EltTy) = .i32) shapeCasts_S8192_S8x32x32x1]
abbrev upd3W : List (Ref sig .tc) := [main_v82, main_v83, main_v84, main_v85]
theorem upd3_writes : (upd3 (F := F)).Forall fun op => op.writes ⊆ (upd3W.map (Proc.devRef (τ := τ) .tc)).toFinset :=
  forall_writes_sub_of_map rfl
theorem upd3_fresh : (upd3 (F := F)).Forall fun op => op.fresh = ∅ := forall_fresh_of_map rfl
theorem upd3_sub : (upd3 (F := F)).Forall fun op => op.bufs ⊆ tcRefs τ sig :=
  ⟨reshape_bufs_sub .., binary_bufs_sub .., binary_bufs_sub .., reshape_bufs_sub ..⟩

abbrev codes : List Op :=
  [nary ![main_v22, main_v43, main_v64, main_v85] main_v86 (fun u => (concatenate S8x32x32x4 3 [⟨S8x32x32x1, (u 0 : (⟨S8x32x32x1, .i32⟩ : BufTy).Contents (Elt F))⟩, ⟨S8x32x32x1, (u 1 : (⟨S8x32x32x1, .i32⟩ : BufTy).Contents (Elt F))⟩, ⟨S8x32x32x1, (u 2 : (⟨S8x32x32x1, .i32⟩ : BufTy).Contents (Elt F))⟩, ⟨S8x32x32x1, (u 3 : (⟨S8x32x32x1, .i32⟩ : BufTy).Contents (Elt F))⟩] concatenates_S8x32x32x1_S8x32x32x1_S8x32x32x1_S8x32x32x1_S8x32x32x4_d3 : (⟨S8x32x32x4, .i32⟩ : BufTy).Contents (Elt F)))]
abbrev codesW : List (Ref sig .tc) := [main_v86]
theorem codes_writes : (codes (F := F)).Forall fun op => op.writes ⊆ (codesW.map (Proc.devRef (τ := τ) .tc)).toFinset :=
  forall_writes_sub_of_map rfl
theorem codes_fresh : (codes (F := F)).Forall fun op => op.fresh = ∅ := forall_fresh_of_map rfl
theorem codes_sub : (codes (F := F)).Forall fun op => op.bufs ⊆ tcRefs τ sig :=
  nary_bufs_sub ..

abbrev loss0 : List Op :=
  [binary main_arg0 main_v21 main_v87 (subf : (⟨S8x32x32x32, .f32⟩ : BufTy).Contents (Elt F) → (⟨S8x32x32x32, .f32⟩ : BufTy).Contents (Elt F) → (⟨S8x32x32x32, .f32⟩ : BufTy).Contents (Elt F)),
   binary main_v87 main_v87 main_v88 (mulf : (⟨S8x32x32x32, .f32⟩ : BufTy).Contents (Elt F) → (⟨S8x32x32x32, .f32⟩ : BufTy).Contents (Elt F) → (⟨S8x32x32x32, .f32⟩ : BufTy).Contents (Elt F)),
   nullary main_cst_12 (constant S_ .f32 0x00000000#32),
   binary main_v88 main_cst_12 main_v89 ((fun x v => Host.reduceAdd x v reducesTo_S8x32x32x32_S_d0_1_2_3 h_S_) : (⟨S8x32x32x32, .f32⟩ : BufTy).Contents (Elt F) → (⟨S_, .f32⟩ : BufTy).Contents (Elt F) → (⟨S_, .f32⟩ : BufTy).Contents (Elt F)),
   nullary main_cst_13 (constant S_ .f32 0x48800000#32),
   binary main_v89 main_cst_13 main_v90 (Host.divf : (⟨S_, .f32⟩ : BufTy).Contents (Elt F) → (⟨S_, .f32⟩ : BufTy).Contents (Elt F) → (⟨S_, .f32⟩ : BufTy).Contents (Elt F))]
abbrev loss0W : List (Ref sig .tc) := [main_v87, main_v88, main_cst_12, main_v89, main_cst_13, main_v90]
theorem loss0_writes : (loss0 (F := F)).Forall fun op => op.writes ⊆ (loss0W.map (Proc.devRef (τ := τ) .tc)).toFinset :=
  forall_writes_sub_of_map rfl
theorem loss0_fresh : (loss0 (F := F)).Forall fun op => op.fresh = ∅ := forall_fresh_of_map rfl
theorem loss0_sub : (loss0 (F := F)).Forall fun op => op.bufs ⊆ tcRefs τ sig :=
  ⟨binary_bufs_sub .., binary_bufs_sub .., nullary_bufs_sub .., binary_bufs_sub .., nullary_bufs_sub .., binary_bufs_sub ..⟩

abbrev loss1 : List Op :=
  [binary main_arg0 main_v42 main_v91 (subf : (⟨S8x32x32x32, .f32⟩ : BufTy).Contents (Elt F) → (⟨S8x32x32x32, .f32⟩ : BufTy).Contents (Elt F) → (⟨S8x32x32x32, .f32⟩ : BufTy).Contents (Elt F)),
   binary main_v91 main_v91 main_v92 (mulf : (⟨S8x32x32x32, .f32⟩ : BufTy).Contents (Elt F) → (⟨S8x32x32x32, .f32⟩ : BufTy).Contents (Elt F) → (⟨S8x32x32x32, .f32⟩ : BufTy).Contents (Elt F)),
   nullary main_cst_14 (constant S_ .f32 0x00000000#32),
   binary main_v92 main_cst_14 main_v93 ((fun x v => Host.reduceAdd x v reducesTo_S8x32x32x32_S_d0_1_2_3 h_S_) : (⟨S8x32x32x32, .f32⟩ : BufTy).Contents (Elt F) → (⟨S_, .f32⟩ : BufTy).Contents (Elt F) → (⟨S_, .f32⟩ : BufTy).Contents (Elt F)),
   nullary main_cst_15 (constant S_ .f32 0x48800000#32),
   binary main_v93 main_cst_15 main_v94 (Host.divf : (⟨S_, .f32⟩ : BufTy).Contents (Elt F) → (⟨S_, .f32⟩ : BufTy).Contents (Elt F) → (⟨S_, .f32⟩ : BufTy).Contents (Elt F))]
abbrev loss1W : List (Ref sig .tc) := [main_v91, main_v92, main_cst_14, main_v93, main_cst_15, main_v94]
theorem loss1_writes : (loss1 (F := F)).Forall fun op => op.writes ⊆ (loss1W.map (Proc.devRef (τ := τ) .tc)).toFinset :=
  forall_writes_sub_of_map rfl
theorem loss1_fresh : (loss1 (F := F)).Forall fun op => op.fresh = ∅ := forall_fresh_of_map rfl
theorem loss1_sub : (loss1 (F := F)).Forall fun op => op.bufs ⊆ tcRefs τ sig :=
  ⟨binary_bufs_sub .., binary_bufs_sub .., nullary_bufs_sub .., binary_bufs_sub .., nullary_bufs_sub .., binary_bufs_sub ..⟩

abbrev loss2 : List Op :=
  [binary main_arg0 main_v63 main_v95 (subf : (⟨S8x32x32x32, .f32⟩ : BufTy).Contents (Elt F) → (⟨S8x32x32x32, .f32⟩ : BufTy).Contents (Elt F) → (⟨S8x32x32x32, .f32⟩ : BufTy).Contents (Elt F)),
   binary main_v95 main_v95 main_v96 (mulf : (⟨S8x32x32x32, .f32⟩ : BufTy).Contents (Elt F) → (⟨S8x32x32x32, .f32⟩ : BufTy).Contents (Elt F) → (⟨S8x32x32x32, .f32⟩ : BufTy).Contents (Elt F)),
   nullary main_cst_16 (constant S_ .f32 0x00000000#32),
   binary main_v96 main_cst_16 main_v97 ((fun x v => Host.reduceAdd x v reducesTo_S8x32x32x32_S_d0_1_2_3 h_S_) : (⟨S8x32x32x32, .f32⟩ : BufTy).Contents (Elt F) → (⟨S_, .f32⟩ : BufTy).Contents (Elt F) → (⟨S_, .f32⟩ : BufTy).Contents (Elt F)),
   nullary main_cst_17 (constant S_ .f32 0x48800000#32),
   binary main_v97 main_cst_17 main_v98 (Host.divf : (⟨S_, .f32⟩ : BufTy).Contents (Elt F) → (⟨S_, .f32⟩ : BufTy).Contents (Elt F) → (⟨S_, .f32⟩ : BufTy).Contents (Elt F))]
abbrev loss2W : List (Ref sig .tc) := [main_v95, main_v96, main_cst_16, main_v97, main_cst_17, main_v98]
theorem loss2_writes : (loss2 (F := F)).Forall fun op => op.writes ⊆ (loss2W.map (Proc.devRef (τ := τ) .tc)).toFinset :=
  forall_writes_sub_of_map rfl
theorem loss2_fresh : (loss2 (F := F)).Forall fun op => op.fresh = ∅ := forall_fresh_of_map rfl
theorem loss2_sub : (loss2 (F := F)).Forall fun op => op.bufs ⊆ tcRefs τ sig :=
  ⟨binary_bufs_sub .., binary_bufs_sub .., nullary_bufs_sub .., binary_bufs_sub .., nullary_bufs_sub .., binary_bufs_sub ..⟩

abbrev loss3 : List Op :=
  [binary main_arg0 main_v84 main_v99 (subf : (⟨S8x32x32x32, .f32⟩ : BufTy).Contents (Elt F) → (⟨S8x32x32x32, .f32⟩ : BufTy).Contents (Elt F) → (⟨S8x32x32x32, .f32⟩ : BufTy).Contents (Elt F)),
   binary main_v99 main_v99 main_v100 (mulf : (⟨S8x32x32x32, .f32⟩ : BufTy).Contents (Elt F) → (⟨S8x32x32x32, .f32⟩ : BufTy).Contents (Elt F) → (⟨S8x32x32x32, .f32⟩ : BufTy).Contents (Elt F)),
   nullary main_cst_18 (constant S_ .f32 0x00000000#32),
   binary main_v100 main_cst_18 main_v101 ((fun x v => Host.reduceAdd x v reducesTo_S8x32x32x32_S_d0_1_2_3 h_S_) : (⟨S8x32x32x32, .f32⟩ : BufTy).Contents (Elt F) → (⟨S_, .f32⟩ : BufTy).Contents (Elt F) → (⟨S_, .f32⟩ : BufTy).Contents (Elt F)),
   nullary main_cst_19 (constant S_ .f32 0x48800000#32),
   binary main_v101 main_cst_19 main_v102 (Host.divf : (⟨S_, .f32⟩ : BufTy).Contents (Elt F) → (⟨S_, .f32⟩ : BufTy).Contents (Elt F) → (⟨S_, .f32⟩ : BufTy).Contents (Elt F))]
abbrev loss3W : List (Ref sig .tc) := [main_v99, main_v100, main_cst_18, main_v101, main_cst_19, main_v102]
theorem loss3_writes : (loss3 (F := F)).Forall fun op => op.writes ⊆ (loss3W.map (Proc.devRef (τ := τ) .tc)).toFinset :=
  forall_writes_sub_of_map rfl
theorem loss3_fresh : (loss3 (F := F)).Forall fun op => op.fresh = ∅ := forall_fresh_of_map rfl
theorem loss3_sub : (loss3 (F := F)).Forall fun op => op.bufs ⊆ tcRefs τ sig :=
  ⟨binary_bufs_sub .., binary_bufs_sub .., nullary_bufs_sub .., binary_bufs_sub .., nullary_bufs_sub .., binary_bufs_sub ..⟩

abbrev fin : List Op :=
  [unary main_v90 main_v103 (broadcastInDim S1 ![] bcast_S_S1 : (⟨S_, .f32⟩ : BufTy).Contents (Elt F) → (⟨S1, .f32⟩ : BufTy).Contents (Elt F)),
   unary main_v94 main_v104 (broadcastInDim S1 ![] bcast_S_S1 : (⟨S_, .f32⟩ : BufTy).Contents (Elt F) → (⟨S1, .f32⟩ : BufTy).Contents (Elt F)),
   unary main_v98 main_v105 (broadcastInDim S1 ![] bcast_S_S1 : (⟨S_, .f32⟩ : BufTy).Contents (Elt F) → (⟨S1, .f32⟩ : BufTy).Contents (Elt F)),
   unary main_v102 main_v106 (broadcastInDim S1 ![] bcast_S_S1 : (⟨S_, .f32⟩ : BufTy).Contents (Elt F) → (⟨S1, .f32⟩ : BufTy).Contents (Elt F)),
   nary ![main_v103, main_v104, main_v105, main_v106] main_v107 (fun u => (concatenate S4 0 [⟨S1, (u 0 : (⟨S1, .f32⟩ : BufTy).Contents (Elt F))⟩, ⟨S1, (u 1 : (⟨S1, .f32⟩ : BufTy).Contents (Elt F))⟩, ⟨S1, (u 2 : (⟨S1, .f32⟩ : BufTy).Contents (Elt F))⟩, ⟨S1, (u 3 : (⟨S1, .f32⟩ : BufTy).Contents (Elt F))⟩] concatenates_S1_S1_S1_S1_S4_d0 : (⟨S4, .f32⟩ : BufTy).Contents (Elt F))),
   nullary main_cst_20 (constant S_ .f32 0x00000000#32),
   binary main_v107 main_cst_20 main_v108 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
   nullary main_cst_21 (constant S_ .f32 0x40800000#32),
   binary main_v108 main_cst_21 main_v109 (Host.divf : (⟨S_, .f32⟩ : BufTy).Contents (Elt F) → (⟨S_, .f32⟩ : BufTy).Contents (Elt F) → (⟨S_, .f32⟩ : BufTy).Contents (Elt F)),
   binary main_v84 main_arg0 main_v110 (subf : (⟨S8x32x32x32, .f32⟩ : BufTy).Contents (Elt F) → (⟨S8x32x32x32, .f32⟩ : BufTy).Contents (Elt F) → (⟨S8x32x32x32, .f32⟩ : BufTy).Contents (Elt F)),
   binary main_arg0 main_v110 main_v111 (addf : (⟨S8x32x32x32, .f32⟩ : BufTy).Contents (Elt F) → (⟨S8x32x32x32, .f32⟩ : BufTy).Contents (Elt F) → (⟨S8x32x32x32, .f32⟩ : BufTy).Contents (Elt F))]
abbrev finW : List (Ref sig .tc) := [main_v103, main_v104, main_v105, main_v106, main_v107, main_cst_20, main_v108, main_cst_21, main_v109, main_v110, main_v111]
theorem fin_writes : (fin (F := F)).Forall fun op => op.writes ⊆ (finW.map (Proc.devRef (τ := τ) .tc)).toFinset :=
  forall_writes_sub_of_map rfl
theorem fin_fresh : (fin (F := F)).Forall fun op => op.fresh = ∅ := forall_fresh_of_map rfl
theorem fin_sub : (fin (F := F)).Forall fun op => op.bufs ⊆ tcRefs τ sig :=
  ⟨unary_bufs_sub .., unary_bufs_sub .., unary_bufs_sub .., unary_bufs_sub .., nary_bufs_sub .., nullary_bufs_sub .., binary_bufs_sub .., nullary_bufs_sub .., binary_bufs_sub .., binary_bufs_sub .., binary_bufs_sub ..⟩

/-- All the operations, in order. -/
abbrev ops : List Op :=
  head ++ (dist0 ++ (arg0 ++ (take0 ++ (upd0 ++ (dist1 ++ (arg1 ++ (take1 ++ (upd1 ++ (dist2 ++ (arg2 ++ (take2 ++ (upd2 ++ (dist3 ++ (arg3 ++ (take3 ++ (upd3 ++ (codes ++ (loss0 ++ (loss1 ++ (loss2 ++ (loss3 ++ (fin))))))))))))))))))))))

theorem main_eq (d : Dev nD) : main (F := F) d = seq ops := rfl

theorem ops_sub : (ops (F := F)).Forall fun op => op.bufs ⊆ tcRefs τ sig := by
  simp only [ops, List.forall_append]
  exact ⟨head_sub, dist0_sub, arg0_sub, take0_sub, upd0_sub, dist1_sub, arg1_sub, take1_sub, upd1_sub, dist2_sub, arg2_sub, take2_sub, upd2_sub, dist3_sub, arg3_sub, take3_sub, upd3_sub, codes_sub, loss0_sub, loss1_sub, loss2_sub, loss3_sub, fin_sub⟩
theorem ops_fresh : (ops (F := F)).Forall fun op => op.fresh = ∅ := by
  simp only [ops, List.forall_append]
  exact ⟨head_fresh, dist0_fresh, arg0_fresh, take0_fresh, upd0_fresh, dist1_fresh, arg1_fresh, take1_fresh, upd1_fresh, dist2_fresh, arg2_fresh, take2_fresh, upd2_fresh, dist3_fresh, arg3_fresh, take3_fresh, upd3_fresh, codes_fresh, loss0_fresh, loss1_fresh, loss2_fresh, loss3_fresh, fin_fresh⟩

theorem scopedRefs_eq : (Finset.univ.filter fun b : Ref sig .tc => b.isScoped) = ∅ := by decide
theorem scopedSems_eq : (Finset.univ.filter fun sm : SemLoc sig => sm.isScoped .tc) = ∅ := by decide

/-- Every run of the reference ends with each buffer holding what the operations, in order, leave in it. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc), r.2.mem ((d.tc : Thread nD τ).loc b) = after (ops (F := Ideal)) (launchContents m d) (Proc.devRef .tc b) :=
  run_seq scopedRefs_eq scopedSems_eq defs main (fun _ => ops) main_eq (fun _ => ops_sub) m ρ
    (fun _ => List.forall_iff_forall_mem.mp ops_fresh)

end Cert.ReferenceIdeal.Run
-- ==== Proof.RefVals.lean ====
/-
  What the reference's stretches leave in the buffers read after them, and with them what each of these buffers holds
  when the reference has ended, as a function of what the others then hold.
-/
module

public import proofs.«01_k».proof.Proof.RefRun

@[expose] public section

set_option maxRecDepth 65536
set_option maxHeartbeats 4000000

noncomputable section

namespace Cert.ReferenceIdeal.Run

open Idealize.ShloMosaic Idealize.ShloMosaic.TcCoe Idealize.ShloMosaic.StableHlo Idealize.SL.Sem
open Cert.ReferenceIdeal Cert.ReferenceIdeal.Gen

variable {F : FTy → Type} [FloatOps F]

/-- The rows of an array of vectors. -/
def rows (x : Vec F S8x32x32x32 .f32) : Vec F S8192x32 .f32 :=
  shapeCast S8192x32 x shapeCasts_S8x32x32x32_S8192x32
/-- The codebook without its last row. -/
def table (e : Vec F S8193x32 .f32) : Vec F S8192x32 .f32 :=
  extractStridedSlice S8192x32 ![0, 0] e slices_S8193x32_S8192x32_0_0
/-- The distances of every row from every entry. -/
def distF (e z : Vec F S8192x32 .f32) : Vec F S8192x8192 .f32 :=
  subf (addf (broadcastInDim S8192x8192 ![0, 1] bcast_S8192x1_S8192x8192_0_1 (broadcastInDim S8192x1 ![0] bcast_S8192_S8192x1_0
        (Host.reduceAdd (mulf z z) (constant S_ .f32 0x00000000#32) reducesTo_S8192x32_S8192_d1 h_S_)))
      (broadcastInDim S8192x8192 ![0, 1] bcast_S1x8192_S8192x8192_0_1 (broadcastInDim S1x8192 ![1] bcast_S8192_S1x8192_1
        (Host.reduceAdd (mulf e e) (constant S_ .f32 0x00000000#32) reducesTo_S8192x32_S8192_d1 h_S_))))
    (mulf (broadcastInDim S8192x8192 ![] bcast_S_S8192x8192 (constant S_ .f32 0x40000000#32))
      (Host.dotGeneral dot_S8192x32_S32x8192_S8192x8192_1_0_0_1_n_n none z
        (transpose S32x8192 [1, 0] e transposes_S8192x32_S32x8192_1_0)))
/-- The second component of a reduction of pairs. -/
def placeReduce {φ : FTy} {s t u : Shape} {axes : List (Fin s.rank)} {β : Type} (f : F φ × β → F φ × β → F φ × β)
    (x : FVec F s φ) (y : s.Idx → β) (ix : u.Idx → F φ) (iy : u.Idx → β) (h : s.ReducesTo axes t) (hu : 0 < u.numel) : t.Idx → β :=
  fun j => (Host.argReduce f x y ix iy h hu j).2
/-- The place of the least distance of each row. -/
def argF (d : Vec F S8192x8192 .f32) : Vec F S8192 .i32 :=
  placeReduce reducer_argmin_f32_i32 d (iotaInDim S8192x8192 32 1) (constant S_ .f32 0x7F800000#32) (constantI S_ 32 0#32)
    reducesTo_S8192x8192_S8192_d1 h_S_
/-- The places counted from the end where negative, as a column. -/
def placeF (i : Vec F S8192 .i32) : Vec F S8192x1 .i32 :=
  broadcastInDim S8192x1 ![0] bcast_S8192_S8192x1_0
    (select (cmpi .slt i (broadcastInDim S8192 ![] bcast_S_S8192 (constantI S_ 32 0#32)))
      (addi i (broadcastInDim S8192 ![] bcast_S_S8192 (constantI S_ 32 8192#32))) i)
/-- Which places are places of the codebook. -/
def insideF (p : Vec F S8192x1 .i32) : Vec F S8192 .i1 :=
  Host.reduce IntOp.andi (andi (cmpi .sge p (broadcastInDim S8192x1 ![] bcast_S_S8192x1 (constantI S_ 32 0#32)))
      (cmpi .sle p (broadcastInDim S8192x1 ![0, 1] bcast_S1x1_S8192x1_0_1 (broadcastInDim S1x1 ![1] bcast_S1_S1x1_1 (constantI S1 32 8191#32)))))
    (constantI S_ 1 1#1) reducesTo_S8192x1_S8192_d1 h_S_
/-- The entries at the given places. -/
def takeF (e : Vec F S8192x32 .f32) (i : Vec F S8192 .i32) : Vec F S8192x32 .f32 :=
  select (broadcastInDim S8192x32 ![0] bcast_S8192_S8192x32_0 (insideF (F := F) (placeF (F := F) i)))
    (Host.gather gather_S8192x32_S8192x1_S8192x32_1_0_n_n_0_1_132 e (placeF (F := F) i))
    (broadcastInDim S8192x32 ![] bcast_S_S8192x32 (constant S_ .f32 0x7FC00000#32))
/-- The mean of the squared distance of two arrays. -/
def lossF (x a : Vec F S8x32x32x32 .f32) : Vec F S_ .f32 :=
  Host.divf (Host.reduceAdd (mulf (subf x a) (subf x a)) (constant S_ .f32 0x00000000#32) reducesTo_S8x32x32x32_S_d0_1_2_3 h_S_)
    (constant S_ .f32 0x48800000#32)
/-- The mean of four numbers. -/
def meanF (a b c d : Vec F S_ .f32) : Vec F S_ .f32 :=
  Host.divf (Host.reduceAdd (concatenate S4 0 [⟨S1, broadcastInDim S1 ![] bcast_S_S1 a⟩, ⟨S1, broadcastInDim S1 ![] bcast_S_S1 b⟩,
      ⟨S1, broadcastInDim S1 ![] bcast_S_S1 c⟩, ⟨S1, broadcastInDim S1 ![] bcast_S_S1 d⟩] concatenates_S1_S1_S1_S1_S4_d0)
      (constant S_ .f32 0x00000000#32) reducesTo_S4_S_d0 h_S_) (constant S_ .f32 0x40800000#32)
/-- A column of places, in the array's shape. -/
def colF (i : Vec F S8192 .i32) : Vec F S8x32x32x1 .i32 := shapeCast S8x32x32x1 i shapeCasts_S8192_S8x32x32x1
/-- Four columns of places side by side. -/
def codesF (a b c d : Vec F S8x32x32x1 .i32) : Vec F S8x32x32x4 .i32 :=
  concatenate S8x32x32x4 3 [⟨S8x32x32x1, a⟩, ⟨S8x32x32x1, b⟩, ⟨S8x32x32x1, c⟩, ⟨S8x32x32x1, d⟩] concatenates_S8x32x32x1_S8x32x32x1_S8x32x32x1_S8x32x32x1_S8x32x32x4_d3
/-- Rows in the array's shape. -/
def unrows (q : Vec F S8192x32 .f32) : Vec F S8x32x32x32 .f32 :=
  shapeCast S8x32x32x32 q shapeCasts_S8192x32_S8x32x32x32

/-! ## What each stretch leaves -/

variable (V : Valuation τ sig (Elt F))

theorem table_of : after head V main_v0 = table (V main_arg1) := by
  simp only [head]; after_results; all_goals rfl
theorem zero_of : after head V main_v1 = broadcastInDim S8x32x32x32 ![] bcast_S_S8x32x32x32 (constant S_ .f32 0x00000000#32) := by
  simp only [head]; after_results; all_goals rfl
theorem dist0_of : after dist0 V main_v16 = distF (V main_v0) (rows (V main_arg0)) := by
  simp only [dist0]; after_results; all_goals rfl
theorem idx0_of : after arg0 V main_v17 = argF (V main_v16) := by
  simp only [arg0, argminOps]; after_results; all_goals rfl
theorem q0_of : after take0 V main_v18 = takeF (V main_v0) (V main_v17) := by
  simp only [take0, takeOps]; after_results; all_goals rfl
theorem res1_of : after upd0 V main_v20 = subf (F := F) (s := S8x32x32x32) (φ := .f32) (V main_arg0) (unrows (V main_v18)) := by
  simp only [upd0]; after_results; all_goals rfl
theorem agg1_of : after upd0 V main_v21 = addf (F := F) (s := S8x32x32x32) (φ := .f32) (V main_v1) (unrows (V main_v18)) := by
  simp only [upd0]; after_results; all_goals rfl
theorem col0_of : after upd0 V main_v22 = colF (F := F) (V main_v17) := by
  simp only [upd0]; after_results; all_goals rfl
theorem dist1_of : after dist1 V main_v37 = distF (V main_v0) (rows (V main_v20)) := by
  simp only [dist1]; after_results; all_goals rfl
theorem idx1_of : after arg1 V main_v38 = argF (V main_v37) := by
  simp only [arg1, argminOps]; after_results; all_goals rfl
theorem q1_of : after take1 V main_v39 = takeF (V main_v0) (V main_v38) := by
  simp only [take1, takeOps]; after_results; all_goals rfl
theorem res2_of : after upd1 V main_v41 = subf (F := F) (s := S8x32x32x32) (φ := .f32) (V main_v20) (unrows (V main_v39)) := by
  simp only [upd1]; after_results; all_goals rfl
theorem agg2_of : after upd1 V main_v42 = addf (F := F) (s := S8x32x32x32) (φ := .f32) (V main_v21) (unrows (V main_v39)) := by
  simp only [upd1]; after_results; all_goals rfl
theorem col1_of : after upd1 V main_v43 = colF (F := F) (V main_v38) := by
  simp only [upd1]; after_results; all_goals rfl
theorem dist2_of : after dist2 V main_v58 = distF (V main_v0) (rows (V main_v41)) := by
  simp only [dist2]; after_results; all_goals rfl
theorem idx2_of : after arg2 V main_v59 = argF (V main_v58) := by
  simp only [arg2, argminOps]; after_results; all_goals rfl
theorem q2_of : after take2 V main_v60 = takeF (V main_v0) (V main_v59) := by
  simp only [take2, takeOps]; after_results; all_goals rfl
theorem res3_of : after upd2 V main_v62 = subf (F := F) (s := S8x32x32x32) (φ := .f32) (V main_v41) (unrows (V main_v60)) := by
  simp only [upd2]; after_results; all_goals rfl
theorem agg3_of : after upd2 V main_v63 = addf (F := F) (s := S8x32x32x32) (φ := .f32) (V main_v42) (unrows (V main_v60)) := by
  simp only [upd2]; after_results; all_goals rfl
theorem col2_of : after upd2 V main_v64 = colF (F := F) (V main_v59) := by
  simp only [upd2]; after_results; all_goals rfl
theorem dist3_of : after dist3 V main_v79 = distF (V main_v0) (rows (V main_v62)) := by
  simp only [dist3]; after_results; all_goals rfl
theorem idx3_of : after arg3 V main_v80 = argF (V main_v79) := by
  simp only [arg3, argminOps]; after_results; all_goals rfl
theorem q3_of : after take3 V main_v81 = takeF (V main_v0) (V main_v80) := by
  simp only [take3, takeOps]; after_results; all_goals rfl
theorem res4_of : after upd3 V main_v83 = subf (F := F) (s := S8x32x32x32) (φ := .f32) (V main_v62) (unrows (V main_v81)) := by
  simp only [upd3]; after_results; all_goals rfl
theorem agg4_of : after upd3 V main_v84 = addf (F := F) (s := S8x32x32x32) (φ := .f32) (V main_v63) (unrows (V main_v81)) := by
  simp only [upd3]; after_results; all_goals rfl
theorem col3_of : after upd3 V main_v85 = colF (F := F) (V main_v80) := by
  simp only [upd3]; after_results; all_goals rfl
theorem codes_of : after codes V main_v86 = codesF (F := F) (V main_v22) (V main_v43) (V main_v64) (V main_v85) := by
  simp only [codes]; after_results; all_goals rfl
theorem loss0_of : after loss0 V main_v90 = lossF (V main_arg0) (V main_v21) := by
  simp only [loss0]; after_results; all_goals rfl
theorem loss1_of : after loss1 V main_v94 = lossF (V main_arg0) (V main_v42) := by
  simp only [loss1]; after_results; all_goals rfl
theorem loss2_of : after loss2 V main_v98 = lossF (V main_arg0) (V main_v63) := by
  simp only [loss2]; after_results; all_goals rfl
theorem loss3_of : after loss3 V main_v102 = lossF (V main_arg0) (V main_v84) := by
  simp only [loss3]; after_results; all_goals rfl
theorem mean_of : after fin V main_v109 = meanF (V main_v90) (V main_v94) (V main_v98) (V main_v102) := by
  simp only [fin]; after_results; all_goals rfl
theorem quants_of : after fin V main_v111 = addf (F := F) (s := S8x32x32x32) (φ := .f32) (V main_arg0) (subf (F := F) (s := S8x32x32x32) (φ := .f32) (V main_v84) (V main_arg0)) := by
  simp only [fin]; after_results; all_goals rfl

/-! ## At the end -/

theorem after_cat (l₁ l₂ : List (HloOp τ sig (Elt F))) (V : Valuation τ sig (Elt F)) : after (l₁ ++ l₂) V = after l₂ (after l₁ V) := by
  induction l₁ generalizing V with
  | nil => rfl
  | cons op l ih => exact ih _

/-- The contents after the first stretches, one more stretch each time. -/
abbrev at0 : Valuation τ sig (Elt F) := V
abbrev at1 : Valuation τ sig (Elt F) := after head (at0 V)
abbrev at2 : Valuation τ sig (Elt F) := after dist0 (at1 V)
abbrev at3 : Valuation τ sig (Elt F) := after arg0 (at2 V)
abbrev at4 : Valuation τ sig (Elt F) := after take0 (at3 V)
abbrev at5 : Valuation τ sig (Elt F) := after upd0 (at4 V)
abbrev at6 : Valuation τ sig (Elt F) := after dist1 (at5 V)
abbrev at7 : Valuation τ sig (Elt F) := after arg1 (at6 V)
abbrev at8 : Valuation τ sig (Elt F) := after take1 (at7 V)
abbrev at9 : Valuation τ sig (Elt F) := after upd1 (at8 V)
abbrev at10 : Valuation τ sig (Elt F) := after dist2 (at9 V)
abbrev at11 : Valuation τ sig (Elt F) := after arg2 (at10 V)
abbrev at12 : Valuation τ sig (Elt F) := after take2 (at11 V)
abbrev at13 : Valuation τ sig (Elt F) := after upd2 (at12 V)
abbrev at14 : Valuation τ sig (Elt F) := after dist3 (at13 V)
abbrev at15 : Valuation τ sig (Elt F) := after arg3 (at14 V)
abbrev at16 : Valuation τ sig (Elt F) := after take3 (at15 V)
abbrev at17 : Valuation τ sig (Elt F) := after upd3 (at16 V)
abbrev at18 : Valuation τ sig (Elt F) := after codes (at17 V)
abbrev at19 : Valuation τ sig (Elt F) := after loss0 (at18 V)
abbrev at20 : Valuation τ sig (Elt F) := after loss1 (at19 V)
abbrev at21 : Valuation τ sig (Elt F) := after loss2 (at20 V)
abbrev at22 : Valuation τ sig (Elt F) := after loss3 (at21 V)
abbrev at23 : Valuation τ sig (Elt F) := after fin (at22 V)

theorem after_ops : after ops V = at23 V := by
  simp only [ops, after_cat]

abbrev rest23 : List (Ref sig .tc) := []
abbrev rest22 : List (Ref sig .tc) := finW ++ rest23
abbrev rest21 : List (Ref sig .tc) := loss3W ++ rest22
abbrev rest20 : List (Ref sig .tc) := loss2W ++ rest21
abbrev rest19 : List (Ref sig .tc) := loss1W ++ rest20
abbrev rest18 : List (Ref sig .tc) := loss0W ++ rest19
abbrev rest17 : List (Ref sig .tc) := codesW ++ rest18
abbrev rest16 : List (Ref sig .tc) := upd3W ++ rest17
abbrev rest15 : List (Ref sig .tc) := take3W ++ rest16
abbrev rest14 : List (Ref sig .tc) := arg3W ++ rest15
abbrev rest13 : List (Ref sig .tc) := dist3W ++ rest14
abbrev rest12 : List (Ref sig .tc) := upd2W ++ rest13
abbrev rest11 : List (Ref sig .tc) := take2W ++ rest12
abbrev rest10 : List (Ref sig .tc) := arg2W ++ rest11
abbrev rest9 : List (Ref sig .tc) := dist2W ++ rest10
abbrev rest8 : List (Ref sig .tc) := upd1W ++ rest9
abbrev rest7 : List (Ref sig .tc) := take1W ++ rest8
abbrev rest6 : List (Ref sig .tc) := arg1W ++ rest7
abbrev rest5 : List (Ref sig .tc) := dist1W ++ rest6
abbrev rest4 : List (Ref sig .tc) := upd0W ++ rest5
abbrev rest3 : List (Ref sig .tc) := take0W ++ rest4
abbrev rest2 : List (Ref sig .tc) := arg0W ++ rest3
abbrev rest1 : List (Ref sig .tc) := dist0W ++ rest2
abbrev rest0 : List (Ref sig .tc) := headW ++ rest1
theorem stay23 (r : Ref sig .tc) (_ : r ∉ rest23) : at23 V r = at23 V r := rfl
theorem stay22 (r : Ref sig .tc) (h : r ∉ rest22) : at23 V r = at22 V r :=
  (stay23 V r fun hm => h (List.mem_append_right _ hm)).trans
    (after_of_writes_sub fin _ fin_writes fun hm => h (List.mem_append_left _ hm))
theorem stay21 (r : Ref sig .tc) (h : r ∉ rest21) : at23 V r = at21 V r :=
  (stay22 V r fun hm => h (List.mem_append_right _ hm)).trans
    (after_of_writes_sub loss3 _ loss3_writes fun hm => h (List.mem_append_left _ hm))
theorem stay20 (r : Ref sig .tc) (h : r ∉ rest20) : at23 V r = at20 V r :=
  (stay21 V r fun hm => h (List.mem_append_right _ hm)).trans
    (after_of_writes_sub loss2 _ loss2_writes fun hm => h (List.mem_append_left _ hm))
theorem stay19 (r : Ref sig .tc) (h : r ∉ rest19) : at23 V r = at19 V r :=
  (stay20 V r fun hm => h (List.mem_append_right _ hm)).trans
    (after_of_writes_sub loss1 _ loss1_writes fun hm => h (List.mem_append_left _ hm))
theorem stay18 (r : Ref sig .tc) (h : r ∉ rest18) : at23 V r = at18 V r :=
  (stay19 V r fun hm => h (List.mem_append_right _ hm)).trans
    (after_of_writes_sub loss0 _ loss0_writes fun hm => h (List.mem_append_left _ hm))
theorem stay17 (r : Ref sig .tc) (h : r ∉ rest17) : at23 V r = at17 V r :=
  (stay18 V r fun hm => h (List.mem_append_right _ hm)).trans
    (after_of_writes_sub codes _ codes_writes fun hm => h (List.mem_append_left _ hm))
theorem stay16 (r : Ref sig .tc) (h : r ∉ rest16) : at23 V r = at16 V r :=
  (stay17 V r fun hm => h (List.mem_append_right _ hm)).trans
    (after_of_writes_sub upd3 _ upd3_writes fun hm => h (List.mem_append_left _ hm))
theorem stay15 (r : Ref sig .tc) (h : r ∉ rest15) : at23 V r = at15 V r :=
  (stay16 V r fun hm => h (List.mem_append_right _ hm)).trans
    (after_of_writes_sub take3 _ take3_writes fun hm => h (List.mem_append_left _ hm))
theorem stay14 (r : Ref sig .tc) (h : r ∉ rest14) : at23 V r = at14 V r :=
  (stay15 V r fun hm => h (List.mem_append_right _ hm)).trans
    (after_of_writes_sub arg3 _ arg3_writes fun hm => h (List.mem_append_left _ hm))
theorem stay13 (r : Ref sig .tc) (h : r ∉ rest13) : at23 V r = at13 V r :=
  (stay14 V r fun hm => h (List.mem_append_right _ hm)).trans
    (after_of_writes_sub dist3 _ dist3_writes fun hm => h (List.mem_append_left _ hm))
theorem stay12 (r : Ref sig .tc) (h : r ∉ rest12) : at23 V r = at12 V r :=
  (stay13 V r fun hm => h (List.mem_append_right _ hm)).trans
    (after_of_writes_sub upd2 _ upd2_writes fun hm => h (List.mem_append_left _ hm))
theorem stay11 (r : Ref sig .tc) (h : r ∉ rest11) : at23 V r = at11 V r :=
  (stay12 V r fun hm => h (List.mem_append_right _ hm)).trans
    (after_of_writes_sub take2 _ take2_writes fun hm => h (List.mem_append_left _ hm))
theorem stay10 (r : Ref sig .tc) (h : r ∉ rest10) : at23 V r = at10 V r :=
  (stay11 V r fun hm => h (List.mem_append_right _ hm)).trans
    (after_of_writes_sub arg2 _ arg2_writes fun hm => h (List.mem_append_left _ hm))
theorem stay9 (r : Ref sig .tc) (h : r ∉ rest9) : at23 V r = at9 V r :=
  (stay10 V r fun hm => h (List.mem_append_right _ hm)).trans
    (after_of_writes_sub dist2 _ dist2_writes fun hm => h (List.mem_append_left _ hm))
theorem stay8 (r : Ref sig .tc) (h : r ∉ rest8) : at23 V r = at8 V r :=
  (stay9 V r fun hm => h (List.mem_append_right _ hm)).trans
    (after_of_writes_sub upd1 _ upd1_writes fun hm => h (List.mem_append_left _ hm))
theorem stay7 (r : Ref sig .tc) (h : r ∉ rest7) : at23 V r = at7 V r :=
  (stay8 V r fun hm => h (List.mem_append_right _ hm)).trans
    (after_of_writes_sub take1 _ take1_writes fun hm => h (List.mem_append_left _ hm))
theorem stay6 (r : Ref sig .tc) (h : r ∉ rest6) : at23 V r = at6 V r :=
  (stay7 V r fun hm => h (List.mem_append_right _ hm)).trans
    (after_of_writes_sub arg1 _ arg1_writes fun hm => h (List.mem_append_left _ hm))
theorem stay5 (r : Ref sig .tc) (h : r ∉ rest5) : at23 V r = at5 V r :=
  (stay6 V r fun hm => h (List.mem_append_right _ hm)).trans
    (after_of_writes_sub dist1 _ dist1_writes fun hm => h (List.mem_append_left _ hm))
theorem stay4 (r : Ref sig .tc) (h : r ∉ rest4) : at23 V r = at4 V r :=
  (stay5 V r fun hm => h (List.mem_append_right _ hm)).trans
    (after_of_writes_sub upd0 _ upd0_writes fun hm => h (List.mem_append_left _ hm))
theorem stay3 (r : Ref sig .tc) (h : r ∉ rest3) : at23 V r = at3 V r :=
  (stay4 V r fun hm => h (List.mem_append_right _ hm)).trans
    (after_of_writes_sub take0 _ take0_writes fun hm => h (List.mem_append_left _ hm))
theorem stay2 (r : Ref sig .tc) (h : r ∉ rest2) : at23 V r = at2 V r :=
  (stay3 V r fun hm => h (List.mem_append_right _ hm)).trans
    (after_of_writes_sub arg0 _ arg0_writes fun hm => h (List.mem_append_left _ hm))
theorem stay1 (r : Ref sig .tc) (h : r ∉ rest1) : at23 V r = at1 V r :=
  (stay2 V r fun hm => h (List.mem_append_right _ hm)).trans
    (after_of_writes_sub dist0 _ dist0_writes fun hm => h (List.mem_append_left _ hm))
theorem stay0 (r : Ref sig .tc) (h : r ∉ rest0) : at23 V r = at0 V r :=
  (stay1 V r fun hm => h (List.mem_append_right _ hm)).trans
    (after_of_writes_sub head _ head_writes fun hm => h (List.mem_append_left _ hm))

theorem table_eq : at23 V main_v0 = table (at23 V main_arg1) := by
  rw [stay1 V main_v0 (by decide), stay0 V main_arg1 (by decide)]; exact table_of _
theorem zero_eq : at23 V main_v1 = broadcastInDim S8x32x32x32 ![] bcast_S_S8x32x32x32 (constant S_ .f32 0x00000000#32) := by
  rw [stay1 V main_v1 (by decide)]; exact zero_of _
theorem dist0_eq : at23 V main_v16 = distF (at23 V main_v0) (rows (at23 V main_arg0)) := by
  rw [stay2 V main_v16 (by decide), stay1 V main_v0 (by decide), stay1 V main_arg0 (by decide)]; exact dist0_of _
theorem idx0_eq : at23 V main_v17 = argF (at23 V main_v16) := by
  rw [stay3 V main_v17 (by decide), stay2 V main_v16 (by decide)]; exact idx0_of _
theorem q0_eq : at23 V main_v18 = takeF (at23 V main_v0) (at23 V main_v17) := by
  rw [stay4 V main_v18 (by decide), stay3 V main_v0 (by decide), stay3 V main_v17 (by decide)]; exact q0_of _
theorem res1_eq : at23 V main_v20 = subf (F := F) (s := S8x32x32x32) (φ := .f32) (at23 V main_arg0) (unrows (at23 V main_v18)) := by
  rw [stay5 V main_v20 (by decide), stay4 V main_arg0 (by decide), stay4 V main_v18 (by decide)]; exact res1_of _
theorem agg1_eq : at23 V main_v21 = addf (F := F) (s := S8x32x32x32) (φ := .f32) (at23 V main_v1) (unrows (at23 V main_v18)) := by
  rw [stay5 V main_v21 (by decide), stay4 V main_v1 (by decide), stay4 V main_v18 (by decide)]; exact agg1_of _
theorem col0_eq : at23 V main_v22 = colF (F := F) (at23 V main_v17) := by
  rw [stay5 V main_v22 (by decide), stay4 V main_v17 (by decide)]; exact col0_of _
theorem dist1_eq : at23 V main_v37 = distF (at23 V main_v0) (rows (at23 V main_v20)) := by
  rw [stay6 V main_v37 (by decide), stay5 V main_v0 (by decide), stay5 V main_v20 (by decide)]; exact dist1_of _
theorem idx1_eq : at23 V main_v38 = argF (at23 V main_v37) := by
  rw [stay7 V main_v38 (by decide), stay6 V main_v37 (by decide)]; exact idx1_of _
theorem q1_eq : at23 V main_v39 = takeF (at23 V main_v0) (at23 V main_v38) := by
  rw [stay8 V main_v39 (by decide), stay7 V main_v0 (by decide), stay7 V main_v38 (by decide)]; exact q1_of _
theorem res2_eq : at23 V main_v41 = subf (F := F) (s := S8x32x32x32) (φ := .f32) (at23 V main_v20) (unrows (at23 V main_v39)) := by
  rw [stay9 V main_v41 (by decide), stay8 V main_v20 (by decide), stay8 V main_v39 (by decide)]; exact res2_of _
theorem agg2_eq : at23 V main_v42 = addf (F := F) (s := S8x32x32x32) (φ := .f32) (at23 V main_v21) (unrows (at23 V main_v39)) := by
  rw [stay9 V main_v42 (by decide), stay8 V main_v21 (by decide), stay8 V main_v39 (by decide)]; exact agg2_of _
theorem col1_eq : at23 V main_v43 = colF (F := F) (at23 V main_v38) := by
  rw [stay9 V main_v43 (by decide), stay8 V main_v38 (by decide)]; exact col1_of _
theorem dist2_eq : at23 V main_v58 = distF (at23 V main_v0) (rows (at23 V main_v41)) := by
  rw [stay10 V main_v58 (by decide), stay9 V main_v0 (by decide), stay9 V main_v41 (by decide)]; exact dist2_of _
theorem idx2_eq : at23 V main_v59 = argF (at23 V main_v58) := by
  rw [stay11 V main_v59 (by decide), stay10 V main_v58 (by decide)]; exact idx2_of _
theorem q2_eq : at23 V main_v60 = takeF (at23 V main_v0) (at23 V main_v59) := by
  rw [stay12 V main_v60 (by decide), stay11 V main_v0 (by decide), stay11 V main_v59 (by decide)]; exact q2_of _
theorem res3_eq : at23 V main_v62 = subf (F := F) (s := S8x32x32x32) (φ := .f32) (at23 V main_v41) (unrows (at23 V main_v60)) := by
  rw [stay13 V main_v62 (by decide), stay12 V main_v41 (by decide), stay12 V main_v60 (by decide)]; exact res3_of _
theorem agg3_eq : at23 V main_v63 = addf (F := F) (s := S8x32x32x32) (φ := .f32) (at23 V main_v42) (unrows (at23 V main_v60)) := by
  rw [stay13 V main_v63 (by decide), stay12 V main_v42 (by decide), stay12 V main_v60 (by decide)]; exact agg3_of _
theorem col2_eq : at23 V main_v64 = colF (F := F) (at23 V main_v59) := by
  rw [stay13 V main_v64 (by decide), stay12 V main_v59 (by decide)]; exact col2_of _
theorem dist3_eq : at23 V main_v79 = distF (at23 V main_v0) (rows (at23 V main_v62)) := by
  rw [stay14 V main_v79 (by decide), stay13 V main_v0 (by decide), stay13 V main_v62 (by decide)]; exact dist3_of _
theorem idx3_eq : at23 V main_v80 = argF (at23 V main_v79) := by
  rw [stay15 V main_v80 (by decide), stay14 V main_v79 (by decide)]; exact idx3_of _
theorem q3_eq : at23 V main_v81 = takeF (at23 V main_v0) (at23 V main_v80) := by
  rw [stay16 V main_v81 (by decide), stay15 V main_v0 (by decide), stay15 V main_v80 (by decide)]; exact q3_of _
theorem res4_eq : at23 V main_v83 = subf (F := F) (s := S8x32x32x32) (φ := .f32) (at23 V main_v62) (unrows (at23 V main_v81)) := by
  rw [stay17 V main_v83 (by decide), stay16 V main_v62 (by decide), stay16 V main_v81 (by decide)]; exact res4_of _
theorem agg4_eq : at23 V main_v84 = addf (F := F) (s := S8x32x32x32) (φ := .f32) (at23 V main_v63) (unrows (at23 V main_v81)) := by
  rw [stay17 V main_v84 (by decide), stay16 V main_v63 (by decide), stay16 V main_v81 (by decide)]; exact agg4_of _
theorem col3_eq : at23 V main_v85 = colF (F := F) (at23 V main_v80) := by
  rw [stay17 V main_v85 (by decide), stay16 V main_v80 (by decide)]; exact col3_of _
theorem codes_eq : at23 V main_v86 = codesF (F := F) (at23 V main_v22) (at23 V main_v43) (at23 V main_v64) (at23 V main_v85) := by
  rw [stay18 V main_v86 (by decide), stay17 V main_v22 (by decide), stay17 V main_v43 (by decide), stay17 V main_v64 (by decide), stay17 V main_v85 (by decide)]; exact codes_of _
theorem loss0_eq : at23 V main_v90 = lossF (at23 V main_arg0) (at23 V main_v21) := by
  rw [stay19 V main_v90 (by decide), stay18 V main_arg0 (by decide), stay18 V main_v21 (by decide)]; exact loss0_of _
theorem loss1_eq : at23 V main_v94 = lossF (at23 V main_arg0) (at23 V main_v42) := by
  rw [stay20 V main_v94 (by decide), stay19 V main_arg0 (by decide), stay19 V main_v42 (by decide)]; exact loss1_of _
theorem loss2_eq : at23 V main_v98 = lossF (at23 V main_arg0) (at23 V main_v63) := by
  rw [stay21 V main_v98 (by decide), stay20 V main_arg0 (by decide), stay20 V main_v63 (by decide)]; exact loss2_of _
theorem loss3_eq : at23 V main_v102 = lossF (at23 V main_arg0) (at23 V main_v84) := by
  rw [stay22 V main_v102 (by decide), stay21 V main_arg0 (by decide), stay21 V main_v84 (by decide)]; exact loss3_of _
theorem mean_eq : at23 V main_v109 = meanF (at23 V main_v90) (at23 V main_v94) (at23 V main_v98) (at23 V main_v102) := by
  rw [stay23 V main_v109 (by decide), stay22 V main_v90 (by decide), stay22 V main_v94 (by decide), stay22 V main_v98 (by decide), stay22 V main_v102 (by decide)]; exact mean_of _
theorem quants_eq : at23 V main_v111 = addf (F := F) (s := S8x32x32x32) (φ := .f32) (at23 V main_arg0) (subf (F := F) (s := S8x32x32x32) (φ := .f32) (at23 V main_v84) (at23 V main_arg0)) := by
  rw [stay23 V main_v111 (by decide), stay22 V main_arg0 (by decide), stay22 V main_v84 (by decide)]; exact quants_of _
theorem main_arg0_eq : at23 V main_arg0 = V main_arg0 := stay0 V main_arg0 (by decide)
theorem main_arg1_eq : at23 V main_arg1 = V main_arg1 := stay0 V main_arg1 (by decide)

end Cert.ReferenceIdeal.Run
-- ==== Proof.RefRead.lean ====
/-
  The reference's operations read at an index, over the extended reals: the distances, the first place of the least one,
  and the codebook row at that place.
-/
module

public import proofs.«01_k».proof.Proof.RefVals
public import proofs.«01_k».proof.Proof.Nearest
public import proofs.«01_k».proof.Proof.Consts
public import Idealize.ShloMosaic.Lib.ValueIdx
public import Idealize.ShloMosaic.Lib.ValueIdxCoords
public import Idealize.ShloMosaic.Lib.Pipeline.Value
public import Idealize.ShloMosaic.Lib.Routing.Ops

@[expose] public section

set_option maxRecDepth 16384

noncomputable section

open scoped BigOperators

namespace Cert.ReferenceIdeal.Run

open Idealize.ShloMosaic Idealize.ShloMosaic.TcCoe Idealize.ShloMosaic.ValueIdx
open Cert.ReferenceIdeal Cert.ReferenceIdeal.Gen Cert.RQ

/-! ## Sums and distances -/

theorem reducesRow : S8192x32.Reduces [1] S8192 := by decide

/-- Where a sum along a row reads. -/
theorem lift_row (n : Fin 8192) (j : Fin 32) : reducesRow.lift (ix1 n) j = ix2 n j := by
  funext a
  match a with
  | ⟨0, _⟩ => rfl
  | ⟨1, _⟩ => rfl

/-- The sum of the squares along a row. -/
theorem sumRow (z : FVec Ideal S8192x32 .f32) (n : Fin 8192) :
    Host.reduceAdd (mulf z z) (constant S_ .f32 0x00000000#32) reducesTo_S8192x32_S8192_d1 h_S_ (ix1 n)
      = ∑ j : Fin 32, z (ix2 n j) * z (ix2 n j) := by
  refine (Ideal.hostReduceAdd_single reducesTo_S8192x32_S8192_d1 reducesRow (mulf z z) _ (ix1 n)).trans ?_
  rw [show (constant (F := Ideal) S_ .f32 0x00000000#32) (Shape.Idx.first h_S_) = (0 : EReal) from Ideal.ofBits_zero_f32, zero_add]
  exact Finset.sum_congr rfl fun k _ => congrArg (fun i => z i * z i) (lift_row n k)

/-- Where the product of rows and codebook reads its left side, -/
theorem dot_lhs (n k : Fin 8192) (c : dot_S8192x32_S32x8192_S8192x8192_1_0_0_1_n_n.contr.Idx) :
    dot_S8192x32_S32x8192_S8192x8192_1_0_0_1_n_n.lhsIdx (ix2 n k) c = ix2 n (c ⟨0, by decide⟩) := by
  funext a
  match a with
  | ⟨0, _⟩ => rfl
  | ⟨1, _⟩ => rfl
/-- and its right side. -/
theorem dot_rhs (n k : Fin 8192) (c : dot_S8192x32_S32x8192_S8192x8192_1_0_0_1_n_n.contr.Idx) :
    dot_S8192x32_S32x8192_S8192x8192_1_0_0_1_n_n.rhsIdx (ix2 n k) c = ix2 (c ⟨0, by decide⟩) k := by
  funext a
  match a with
  | ⟨0, _⟩ => rfl
  | ⟨1, _⟩ => rfl

/-- The product of rows and codebook at an index. -/
theorem dot_apply (z : FVec Ideal S8192x32 .f32) (e : FVec Ideal S32x8192 .f32) (n k : Fin 8192) :
    Host.dotGeneral dot_S8192x32_S32x8192_S8192x8192_1_0_0_1_n_n none z e (ix2 n k)
      = ∑ j : Fin 32, z (ix2 n j) * e (ix2 j k) := by
  refine (Ideal.dotGeneral_apply _ _ _ _ _ _).trans ?_
  rw [← Equiv.sum_comp (contrEquiv1 dot_S8192x32_S32x8192_S8192x8192_1_0_0_1_n_n 32 rfl rfl).symm]
  refine Finset.sum_congr rfl fun j _ => ?_
  rw [dot_lhs, dot_rhs]
  rfl

/-- The rows of an array of two axes. -/
def ent (z : Vec Ideal S8192x32 .f32) (n : Fin 8192) (j : Fin 32) : EReal := z (ix2 n j)

/-- The array of distances holds the distance of each row from each row of the codebook. -/
theorem distF_apply (e z : Vec Ideal S8192x32 .f32) (n k : Fin 8192) :
    distF e z (ix2 n k) = Cert.RQ.dist two (ent e) (Cert.RQ.sq (ent z n)) (ent z n) k := by
  unfold distF
  rw [subf_apply, addf_apply, mulf_apply]
  rw [broadcastInDim_apply _ _ _ (ix2 n k) (ix2 n (0 : Fin 1)) (fun a => by match a with | ⟨0, _⟩ => rfl | ⟨1, _⟩ => rfl),
    broadcastInDim_apply _ _ _ (ix2 n (0 : Fin 1)) (ix1 n) (fun a => by match a with | ⟨0, _⟩ => rfl),
    broadcastInDim_apply _ bcast_S1x8192_S8192x8192_0_1 _ (ix2 n k) (ix2 (0 : Fin 1) k) (fun a => by match a with | ⟨0, _⟩ => rfl | ⟨1, _⟩ => rfl),
    broadcastInDim_apply _ bcast_S8192_S1x8192_1 _ (ix2 (0 : Fin 1) k) (ix1 k) (fun a => by match a with | ⟨0, _⟩ => rfl),
    sumRow, sumRow, dot_apply]
  refine congrArg (fun s => (_ + _) - two * s) (Finset.sum_congr rfl fun j _ => ?_)
  rw [transpose_apply _ e _ (ix2 j k) (ix2 k j) (fun b => by match b with | ⟨0, _⟩ => rfl | ⟨1, _⟩ => rfl)]
  rfl

/-! ## The first place of the least distance -/

/-- Small numbers compare as words as they do as numbers. -/
theorem slt_small {t k : Nat} (ht : t < 8192) (hk : k < 8192) :
    (BitVec.ofNat 32 t).slt (BitVec.ofNat 32 k) = decide (t < k) := by
  rw [BitVec.slt, toInt_ofNat_small (by omega), toInt_ofNat_small (by omega)]
  exact decide_eq_decide.mpr (by omega)

/-- The reduction's body on a running pair and a further place. -/
theorem reducer_apply (m x : EReal) {t k : Nat} (ht : t < 8192) (hk : k < 8192) :
    reducer_argmin_f32_i32 (F := Ideal) (m, BitVec.ofNat 32 t) (x, BitVec.ofNat 32 k)
      = (if m < x then m else x, BitVec.ofNat 32 (if m < x ∨ (m = x ∧ t < k) then t else k)) := by
  have e1 : FloatOps.cmpf (F := Ideal) (φ := .f32) .olt m x = BitVec.ofBool (decide (m < x)) := rfl
  have e2 : FloatOps.cmpf (F := Ideal) (φ := .f32) .une m m = 0#1 := by
    show BitVec.ofBool (decide (m ≠ m)) = _
    simp
  have e3 : FloatOps.cmpf (F := Ideal) (φ := .f32) .oeq m x = BitVec.ofBool (decide (m = x)) := rfl
  have e4 : IntOp.cmpi .slt (BitVec.ofNat 32 t) (BitVec.ofNat 32 k) = BitVec.ofBool (decide (t < k)) := by
    show BitVec.ofBool _ = _
    rw [← slt_small ht hk]
  unfold reducer_argmin_f32_i32
  simp only [e1, e2, e3, e4]
  by_cases h1 : m < x <;> by_cases h2 : m = x <;> by_cases h3 : t < k <;>
    simp [h1, h2, h3, Scalar.select, IntOp.ori, IntOp.andi]

/-- The fold over a list of places: the pair it ends with is best over the places seen. -/
theorem fold_best (d : Fin 8192 → EReal) (l : List (Fin 8192)) :
    ∀ (S : Fin 8192 → Prop) (m : EReal) (t : Nat), t < 8192 → Best d S m t →
      ∃ m' t', t' < 8192 ∧ Best d (fun k => S k ∨ k ∈ l) m' t' ∧
        (l.map fun k => ((d k, BitVec.ofNat 32 k.val) : EReal × BitVec 32)).foldl (reducer_argmin_f32_i32 (F := Ideal))
          (m, BitVec.ofNat 32 t) = (m', BitVec.ofNat 32 t') := by
  induction l with
  | nil => exact fun S m t ht h => ⟨m, t, ht, h.congr fun k => by simp, rfl⟩
  | cons a l ih =>
    intro S m t ht h
    obtain ⟨m', t', ht', hb, he⟩ := ih _ _ _ (by split <;> omega) (h.step a)
    refine ⟨m', t', ht', hb.congr fun k => by simp [or_assoc], ?_⟩
    rw [List.map_cons, List.foldl_cons, reducer_apply _ _ ht a.isLt]
    exact he

/-- The pairs a reduction of the rows goes over in one row: one for each place of it, in some order. -/
theorem fiber_row {α β : Type} {A B : Nat} {axes : List (Fin 2)} (x : (⟨2, ![A, B]⟩ : Shape).Idx → α) (y : (⟨2, ![A, B]⟩ : Shape).Idx → β)
    (h : (⟨2, ![A, B]⟩ : Shape).ReducesTo axes ⟨1, ![A]⟩) (hd : ∀ i, h.drop i = ix1 (n := A) (i 0)) (n : Fin A) :
    ∃ L : List (Fin B), (∀ k, k ∈ L) ∧ Host.argReduceFiber x y h (ix1 n) = L.map fun k => (x (ix2 n k), y (ix2 n k)) := by
  refine ⟨((List.finRange (⟨2, ![A, B]⟩ : Shape).numel).filter
    fun p => h.drop ((⟨2, ![A, B]⟩ : Shape).rowMajor.symm p) = ix1 n).map fun p => (⟨2, ![A, B]⟩ : Shape).rowMajor.symm p 1, fun k => ?_, ?_⟩
  · refine List.mem_map.mpr ⟨(⟨2, ![A, B]⟩ : Shape).rowMajor (ix2 n k), List.mem_filter.mpr ⟨List.mem_finRange _, ?_⟩, ?_⟩
    · rw [Equiv.symm_apply_apply, hd]; exact decide_eq_true rfl
    · rw [Equiv.symm_apply_apply]; rfl
  · unfold Host.argReduceFiber
    refine Eq.trans ?_ (List.map_map ..).symm
    refine List.map_congr_left fun p hp => ?_
    have h' := of_decide_eq_true (List.mem_filter.mp hp).2
    rw [hd] at h'
    have h0 : (⟨2, ![A, B]⟩ : Shape).rowMajor.symm p 0 = n := congrFun h' 0
    have hi : (⟨2, ![A, B]⟩ : Shape).rowMajor.symm p = ix2 n ((⟨2, ![A, B]⟩ : Shape).rowMajor.symm p 1) :=
      (eq_ix2 _).trans (congrArg (fun a => ix2 a _) h0)
    exact Prod.ext (congrArg x hi) (congrArg y hi)

/-- The row of an index. -/
theorem drop_row (i : S8192x8192.Idx) : reducesTo_S8192x8192_S8192_d1.drop i = ix1 (n := 8192) (i 0) := by
  funext b
  match b with
  | ⟨0, _⟩ => exact Fin.ext (Shape.ReducesTo.drop_apply_val_of_eq reducesTo_S8192x8192_S8192_d1 i 0 0 (by decide))

/-- The search starts from +∞ and place 0. -/
theorem init_pair : ((constant (F := Ideal) S_ .f32 0x7F800000#32) (Shape.Idx.first h_S_), (constantI S_ 32 0#32) (Shape.Idx.first h_S_))
      = ((⊤, BitVec.ofNat 32 0) : EReal × BitVec 32) := Prod.ext bits_inf rfl

/-- An arg-min over the extended reals is the fold over its pairs. -/
theorem placeReduce_foldl {φ : FTy} {s t u : Shape} {axes : List (Fin s.rank)} {β : Type}
    (f : Ideal φ × β → Ideal φ × β → Ideal φ × β) (x : FVec Ideal s φ) (y : s.Idx → β) (ix : u.Idx → Ideal φ)
    (iy : u.Idx → β) (h : s.ReducesTo axes t) (hu : 0 < u.numel) (j : t.Idx) :
    placeReduce f x y ix iy h hu j
      = ((Host.argReduceFiber x y h j).foldl f (ix (Shape.Idx.first hu), iy (Shape.Idx.first hu))).2 :=
  congrArg Prod.snd ((congrFun (Ideal.argReduce_eq_reduce2 f x y ix iy h hu) j).trans (Host.reduce2_eq_foldl_fiber f x y ix iy h hu j))

/-- The place found in a row is a fold over its pairs of value and place. -/
theorem argF_fold (d : Vec Ideal S8192x8192 .f32) (j : S8192.Idx) (l : List (Ideal .f32 × BitVec 32)) (p : Ideal .f32 × BitVec 32)
    (hl : Host.argReduceFiber d (iotaInDim S8192x8192 32 1) reducesTo_S8192x8192_S8192_d1 j = l)
    (hp : ((constant (F := Ideal) S_ .f32 0x7F800000#32) (Shape.Idx.first h_S_), (constantI S_ 32 0#32) (Shape.Idx.first h_S_)) = p) :
    argF d j = (l.foldl (reducer_argmin_f32_i32 (F := Ideal)) p).2 := by
  subst hl; subst hp
  exact placeReduce_foldl (φ := .f32) reducer_argmin_f32_i32 d (iotaInDim S8192x8192 32 1) (constant S_ .f32 0x7F800000#32) (constantI S_ 32 0#32)
    reducesTo_S8192x8192_S8192_d1 h_S_ j

/-- The place of an entry is its column. -/
theorem iota_row (n k : Fin 8192) : iotaInDim S8192x8192 32 1 (ix2 n k) = BitVec.ofNat 32 k.val := rfl

/-- That fold finds the first place of the least value. -/
theorem fiber_foldl (d : Fin 8192 → EReal) (L : List (Fin 8192)) (hall : ∀ k, k ∈ L) :
    ((L.map fun k => ((d k, BitVec.ofNat 32 k.val) : EReal × BitVec 32)).foldl (reducer_argmin_f32_i32 (F := Ideal))
          (⊤, BitVec.ofNat 32 0)).2 = BitVec.ofNat 32 (near d).val := by
  obtain ⟨m, t, ht, hb, he⟩ := fold_best d L (fun _ => False) ⊤ 0 (Nat.succ_pos _) (Best.start _)
  exact (congrArg Prod.snd he).trans (congrArg (BitVec.ofNat 32) (hb.near fun k => Or.inr (hall k)))

/-- A row's pairs, every column among them. -/
theorem fiber_at (d : Vec Ideal S8192x8192 .f32) (n : Fin 8192) : ∃ L : List (Fin 8192), (∀ k, k ∈ L) ∧
    Host.argReduceFiber d (iotaInDim S8192x8192 32 1) reducesTo_S8192x8192_S8192_d1 (ix1 n)
      = L.map fun k => ((d (ix2 n k), BitVec.ofNat 32 k.val) : EReal × BitVec 32) := by
  obtain ⟨L, hall, hfib⟩ := fiber_row d (iotaInDim S8192x8192 32 1) reducesTo_S8192x8192_S8192_d1 drop_row n
  exact ⟨L, hall, hfib.trans (List.map_congr_left fun k _ => congrArg (Prod.mk _) (iota_row n k))⟩

/-- The code of a row is its nearest row of the codebook, the first of equals. -/
theorem argF_apply (d : Vec Ideal S8192x8192 .f32) (n : Fin 8192) :
    argF d (ix1 n) = BitVec.ofNat 32 (near fun k => d (ix2 n k)).val := by
  obtain ⟨L, hall, hfib⟩ := fiber_at d n
  exact (argF_fold d (ix1 n) _ _ hfib init_pair).trans (fiber_foldl _ L hall)

/-! ## The row taken -/

/-- A code is already in range: the shift of negative ones leaves it alone. -/
theorem placeF_apply (i : Vec Ideal S8192 .i32) (n k : Fin 8192) (h : i (ix1 n) = BitVec.ofNat 32 k.val) :
    placeF (F := Ideal) i (ix2 n (0 : Fin 1)) = BitVec.ofNat 32 k.val := by
  unfold placeF
  rw [broadcastInDim_apply _ _ _ (ix2 n (0 : Fin 1)) (ix1 n) (fun a => by match a with | ⟨0, _⟩ => rfl)]
  show Scalar.select (BitVec.ofBool ((i (ix1 n)).slt 0#32)) _ (i (ix1 n)) = _
  rw [h, show (0#32) = BitVec.ofNat 32 0 from rfl, slt_small k.isLt (by decide)]
  rfl

theorem reducesUnit : S8192x1.Reduces [1] S8192 := by decide

/-- A code passes the test for being in range. -/
theorem insideF_apply (p : Vec Ideal S8192x1 .i32) (n k : Fin 8192) (h : p (ix2 n (0 : Fin 1)) = BitVec.ofNat 32 k.val) :
    insideF (F := Ideal) p (ix1 n) = 1#1 := by
  haveI : Std.Commutative (IntOp.andi (w := 1)) := ⟨BitVec.and_comm⟩
  haveI : Std.Associative (IntOp.andi (w := 1)) := ⟨BitVec.and_assoc⟩
  unfold insideF
  rw [Host.reduce_eq_fold_single _ _ _ _ reducesUnit]
  have hl : ∀ u : Fin 1, reducesUnit.lift (ix1 n) u = ix2 n (0 : Fin 1) := fun u => by
    funext a
    match a with
    | ⟨0, _⟩ => rfl
    | ⟨1, _⟩ => exact Fin.ext (by have := u.isLt; show u.val = 0; omega)
  have hsge : (0#32 : BitVec 32).sle (BitVec.ofNat 32 k.val) = true := by
    rw [BitVec.sle, toInt_ofNat_small (by omega)]
    exact decide_eq_true (Int.natCast_nonneg _ |>.trans (toInt_ofNat_small (by omega)).ge)
  have hsle : (BitVec.ofNat 32 k.val).sle 8191#32 = true := by
    rw [BitVec.sle, toInt_ofNat_small (by omega)]
    have : (8191#32 : BitVec 32).toInt = 8191 := by decide
    rw [this]; simp; omega
  have hone : ∀ u : Fin 1, (andi (cmpi .sge p (broadcastInDim S8192x1 ![] bcast_S_S8192x1 (constantI S_ 32 0#32)))
      (cmpi .sle p (broadcastInDim S8192x1 ![0, 1] bcast_S1x1_S8192x1_0_1 (broadcastInDim S1x1 ![1] bcast_S1_S1x1_1 (constantI S1 32 8191#32)))))
      (reducesUnit.lift (ix1 n) u) = 1#1 := fun u => by
    rw [hl]
    show IntOp.andi (BitVec.ofBool ((0#32 : BitVec 32).sle (p (ix2 n 0)))) (BitVec.ofBool ((p (ix2 n 0)).sle 8191#32)) = 1#1
    rw [h, hsge, hsle]; rfl
  have : ∀ f : Fin 1 → BitVec 1, (∀ u, f u = 1#1) → (Finset.univ : Finset (Fin 1)).fold IntOp.andi 1#1 f = 1#1 := fun f hf => by
    rw [Finset.univ_unique, Finset.fold_singleton, hf]; rfl
  exact this _ hone

/-- Taking by a code fetches that row. -/
theorem takeF_apply (e : Vec Ideal S8192x32 .f32) (i : Vec Ideal S8192 .i32) (n k : Fin 8192) (j : Fin 32)
    (h : i (ix1 n) = BitVec.ofNat 32 k.val) : takeF e i (ix2 n j) = e (ix2 k j) := by
  unfold takeF
  rw [select_apply, broadcastInDim_apply _ _ _ (ix2 n j) (ix1 n) (fun a => by match a with | ⟨0, _⟩ => rfl),
    insideF_apply _ n k (placeF_apply i n k h), select_one]
  exact Routing.gather_row gather_S8192x32_S8192x1_S8192x32_1_0_n_n_0_1_132 rfl rfl rfl rfl rfl e _ n j k (placeF_apply i n k h) (by decide)

end Cert.ReferenceIdeal.Run
-- ==== Proof.Blocks.lean ====
/-
  The blocks the kernel's points read, at an index: rows `128 t + r` of the array, the whole codebook, and the sums of
  their squares.
-/
module

public import proofs.«01_k».proof.Proof.Entry
public import proofs.«01_k».proof.Proof.RefRead

@[expose] public section

set_option maxRecDepth 16384

noncomputable section

open scoped BigOperators

namespace Cert.KernelIdeal.Entry

open Idealize.ShloMosaic hiding ix1 ix2 ix3 ix4
open Idealize.ShloMosaic.TcCoe Idealize.ShloMosaic.ValueIdx Idealize.SL.Sem
open Cert.KernelIdeal Cert.KernelIdeal.Gen Cert.RQ Cert.KernelIdeal.Steps
open Cert.ReferenceIdeal.Run (ent)

variable (m : (ℓ : Loc nD τ sig) → Buf (Elt Ideal) ℓ) (c : Dev nD)

/-- Which block of each operand a grid step sees: the tile of rows, the whole codebook, its squared lengths, the tile of
    squared lengths, and the three results. -/
theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0, 0] := (by decide +kernel : ∀ t : Fin grid0.N, _)

/-- There are 64 grid steps. -/
theorem point_lt (t : Fin cfg0.N) : t.val < 64 := t.isLt

/-- Row `r` of tile `t`. -/
def rowOf (t : Fin cfg0.N) (r : Fin 128) : Fin 8192 := ⟨t.val * 128 + r.val, by have := point_lt t; omega⟩

/-- A tile holds its 128 rows. -/
theorem iblk0_at (t : Fin cfg0.N) (r : Fin 128) (j : Fin 32) :
    iblk m c 0 t (ix2 r j : S128x32.Idx) = rows (arg0 m c) (ix2 (rowOf t r) j) := by
  rw [← V_v0]
  blk_simp [iblk]
  refine congrArg (V m c main_v0) ?_
  blk_ext [idx0]
  rfl

/-- Every tile sees the whole codebook. -/
theorem iblk1_at (t : Fin cfg0.N) (k : Fin 8192) (j : Fin 32) :
    iblk m c 1 t (ix2 k j : S8192x32.Idx) = table (arg1 m c) (ix2 k j) := by
  rw [← V_v1]
  blk_simp [iblk]
  refine congrArg (V m c main_v1) ?_
  blk_ext [idx1]

/-- Every tile sees the squared lengths of the codebook's rows. -/
theorem iblk2_at (t : Fin cfg0.N) (k : Fin 8192) :
    iblk m c 2 t (ix2 0 k : S1x8192.Idx) = ∑ j : Fin 32, table (arg1 m c) (ix2 k j) * table (arg1 m c) (ix2 k j) := by
  have h : iblk m c 2 t (ix2 0 k : S1x8192.Idx) = V m c main_v4 (ix2 0 k) := by
    blk_simp [iblk]
    refine congrArg (V m c main_v4) ?_
    blk_ext [idx2]
  rw [h, V_v4]
  refine (broadcastInDim_apply _ bcast_S8192_S1x8192_1 _ (ix2 (0 : Fin 1) k) (ix1 k) (fun a => by match a with | ⟨0, _⟩ => rfl)).trans ?_
  exact Cert.ReferenceIdeal.Run.sumRow (table (arg1 m c)) k

/-- A tile sees the squared lengths of its rows. -/
theorem iblk3_at (t : Fin cfg0.N) (r : Fin 128) :
    iblk m c 3 t (ix2 r 0 : S128x1.Idx) = ∑ j : Fin 32, rows (arg0 m c) (ix2 (rowOf t r) j) * rows (arg0 m c) (ix2 (rowOf t r) j) := by
  have h : iblk m c 3 t (ix2 r 0 : S128x1.Idx) = V m c main_v7 (ix2 (rowOf t r) 0) := by
    blk_simp [iblk]
    refine congrArg (V m c main_v7) ?_
    blk_ext [idx3]
    rfl
  rw [h, V_v7]
  refine (broadcastInDim_apply _ bcast_S8192_S8192x1_0 _ (ix2 (rowOf t r) (0 : Fin 1)) (ix1 (rowOf t r)) (fun a => by match a with | ⟨0, _⟩ => rfl)).trans ?_
  exact Cert.ReferenceIdeal.Run.sumRow (rows (arg0 m c)) (rowOf t r)

/-- A tile's codebook is the codebook. -/
theorem book_eq (t : Fin cfg0.N) : book (iblk m c 1 t) = ent (table (arg1 m c)) :=
  funext fun k => funext fun j => iblk1_at m c t k j

/-- A tile's row is the array's row. -/
theorem row_eq (t : Fin cfg0.N) (r : Fin 128) : row (iblk m c 0 t) r = ent (rows (arg0 m c)) (rowOf t r) :=
  funext fun j => iblk0_at m c t r j

/-- The squared lengths of the codebook, in terms of the codebook that the tile sees. -/
theorem esq_eq (t : Fin cfg0.N) (k : Fin 8192) :
    (iblk m c 2 t : Vec Ideal S1x8192 .f32) (ix2 0 k) = ∑ j, book (iblk m c 1 t) k j * book (iblk m c 1 t) k j := by
  rw [book_eq]; exact iblk2_at m c t k

/-- The squared lengths of the rows, in terms of the rows that the tile sees. -/
theorem xsq_eq (t : Fin cfg0.N) (r : Fin 128) :
    (iblk m c 3 t : Vec Ideal S128x1 .f32) (ix2 r 0) = Cert.RQ.sq (row (iblk m c 0 t) r) := by
  rw [row_eq]; exact iblk3_at m c t r

end Cert.KernelIdeal.Entry
-- ==== Proof.Arrays.lean ====
/-
  The three arrays the kernel's points write, each as one function of the two arguments.
-/
module

public import proofs.«01_k».proof.Proof.Blocks

@[expose] public section

set_option maxRecDepth 16384

noncomputable section

open scoped BigOperators

namespace Cert.KernelIdeal.Entry

open Idealize.ShloMosaic hiding ix1 ix2 ix3 ix4 eq_ix1 eq_ix2 eq_ix3 eq_ix4
open Idealize.ShloMosaic.TcCoe Idealize.ShloMosaic.ValueIdx Idealize.SL.Sem
open Cert.KernelIdeal Cert.KernelIdeal.Gen Cert.RQ Cert.KernelIdeal.Steps
open Cert.ReferenceIdeal.Run (ent)

variable (m : (ℓ : Loc nD τ sig) → Buf (Elt Ideal) ℓ) (c : Dev nD)

/-- The rows added up after each step. -/
def sums (e z : Vec Ideal S8192x32 .f32) : Vec Ideal S4x8192x32 .f32 := fun i => agg two (ent e) (ent z (i 1)) ((i 0).val + 1) (i 2)
/-- The codes of each row. -/
def codes (e z : Vec Ideal S8192x32 .f32) : Vec Ideal S8192x4 .i32 := fun i => BitVec.ofNat 32 (code two (ent e) (ent z (i 0)) (i 1).val).val
/-- Each point's lanes. -/
def lanes : Vec Ideal S64x1x128 .f32 := fun i =>
  out0_6 (F := Ideal) (iblk m c 0 ⟨(i 0).val, (i 0).isLt⟩) (iblk m c 1 ⟨(i 0).val, (i 0).isLt⟩) (iblk m c 2 ⟨(i 0).val, (i 0).isLt⟩)
    (iblk m c 3 ⟨(i 0).val, (i 0).isLt⟩) (ix3 0 0 (i 2))

/-- The array of aggregates that the grid leaves behind. -/
theorem arr4 : (dats m 0 c).arrAt 4 cfg0.N = sums (table (arg1 m c)) (rows (arg0 m c)) := by
  refine (dats m 0 c).arrAt_eq_of_covers 4 _ (by decide +kernel) fun t hf y => ?_
  blk_simp
  rw [after0_4]
  obtain ⟨d, r, j, rfl⟩ : ∃ (d : Fin 4) (r : Fin 128) (j : Fin 32), y = ix3 d r j := ⟨_, _, _, eq_ix3 y⟩
  have he : (win0_4.blk t).view.emb (ix3 d r j) = (ix3 d (rowOf t r) j : S4x8192x32.Idx) := by
    blk_ext [idx4]
    rfl
  refine (out4_at (esq_eq m c t) (xsq_eq m c t) d r j).trans ?_
  rw [book_eq, row_eq]
  exact (congrArg (sums (table (arg1 m c)) (rows (arg0 m c))) he).symm

/-- The array of codes that the grid leaves behind. -/
theorem arr5 : (dats m 0 c).arrAt 5 cfg0.N = codes (table (arg1 m c)) (rows (arg0 m c)) := by
  refine (dats m 0 c).arrAt_eq_of_covers 5 _ (by decide +kernel) fun t hf y => ?_
  blk_simp
  rw [after0_5]
  obtain ⟨r, d, rfl⟩ : ∃ (r : Fin 128) (d : Fin 4), y = ix2 r d := ⟨_, _, eq_ix2 y⟩
  have he : (win0_5.blk t).view.emb (ix2 r d) = (ix2 (rowOf t r) d : S8192x4.Idx) := by
    blk_ext [idx5]
    rfl
  refine (out5_at (esq_eq m c t) (xsq_eq m c t) r d).trans ?_
  rw [book_eq, row_eq]
  exact (congrArg (codes (table (arg1 m c)) (rows (arg0 m c))) he).symm

/-- The array of summed errors that the grid leaves behind. -/
theorem arr6 : (dats m 0 c).arrAt 6 cfg0.N = lanes m c := by
  refine (dats m 0 c).arrAt_eq_of_covers 6 _ (by decide +kernel) fun t hf y => ?_
  blk_simp
  rw [after0_6]
  obtain ⟨a, b, l, rfl⟩ : ∃ (a b : Fin 1) (l : Fin 128), y = ix3 a b l := ⟨_, _, _, eq_ix3 y⟩
  obtain rfl : a = 0 := Subsingleton.elim _ _
  obtain rfl : b = 0 := Subsingleton.elim _ _
  have he : (win0_6.blk t).view.emb (ix3 0 0 l) = (ix3 (⟨t.val, point_lt t⟩ : Fin 64) 0 l : S64x1x128.Idx) := by
    blk_ext [idx6]
    all_goals rfl
  exact (congrArg (lanes m c) he).symm

/-- The first four lanes of a point: the squared errors of its rows after each step. -/
theorem lanes_at (t : Fin 64) (d : Fin 4) :
    lanes m c (ix3 t 0 ⟨d.val, by have := d.isLt; omega⟩)
      = ∑ r : Fin 128, err two (ent (table (arg1 m c))) (ent (rows (arg0 m c)) ⟨t.val * 128 + r.val, by omega⟩) (d.val + 1) := by
  refine (out6_at (esq_eq m c ⟨t.val, t.isLt⟩) (xsq_eq m c ⟨t.val, t.isLt⟩) d).trans ?_
  rw [book_eq]
  refine Finset.sum_congr rfl fun r _ => ?_
  rw [row_eq]
  rfl

end Cert.KernelIdeal.Entry
-- ==== Proof.RefChain.lean ====
/-
  The reference's results read at an index, over the extended reals: four steps of residual quantisation of each row, the
  codes side by side, and the mean of the four squared errors.
-/
module

public import proofs.«01_k».proof.Proof.RefRead

@[expose] public section

set_option maxRecDepth 16384

noncomputable section

open scoped BigOperators

namespace Cert.ReferenceIdeal.Run

open Idealize.ShloMosaic Idealize.ShloMosaic.TcCoe Idealize.ShloMosaic.ValueIdx
open Cert.ReferenceIdeal Cert.ReferenceIdeal.Gen Cert.RQ

/-! ## One step -/

/-- Rows made into an array and back. -/
theorem rows_unrows (q : Vec Ideal S8192x32 .f32) : rows (unrows q) = q :=
  shapeCast_shapeCast q shapeCasts_S8192x32_S8x32x32x32 shapeCasts_S8x32x32x32_S8192x32

/-- An array made into rows and back. -/
theorem unrows_rows (x : Vec Ideal S8x32x32x32 .f32) : unrows (rows x) = x :=
  shapeCast_shapeCast x shapeCasts_S8x32x32x32_S8192x32 shapeCasts_S8192x32_S8x32x32x32

/-- Taking rows commutes with subtracting. -/
theorem rows_sub (a : Vec Ideal S8x32x32x32 .f32) (q : Vec Ideal S8192x32 .f32) (i : S8192x32.Idx) :
    rows (subf (F := Ideal) (s := S8x32x32x32) (φ := .f32) a (unrows q)) i = rows a i - q i := by
  have h : rows (subf (F := Ideal) (s := S8x32x32x32) (φ := .f32) a (unrows q)) i = rows a i - rows (unrows q) i := rfl
  rw [h, rows_unrows]

/-- Taking rows commutes with adding. -/
theorem rows_add (a : Vec Ideal S8x32x32x32 .f32) (q : Vec Ideal S8192x32 .f32) (i : S8192x32.Idx) :
    rows (addf (F := Ideal) (s := S8x32x32x32) (φ := .f32) a (unrows q)) i = rows a i + q i := by
  have h : rows (addf (F := Ideal) (s := S8x32x32x32) (φ := .f32) a (unrows q)) i = rows a i + rows (unrows q) i := rfl
  rw [h, rows_unrows]

/-- What is left of every row, and what has been added up of it, after `d` steps. -/
structure Stage (e : Vec Ideal S8192x32 .f32) (x res sum : Vec Ideal S8x32x32x32 .f32) (d : Nat) : Prop where
  left : ∀ n, ent (rows res) n = resid two (ent e) (ent (rows x) n) d
  done : ∀ n, ent (rows sum) n = agg two (ent e) (ent (rows x) n) d

/-- The places a step finds. -/
theorem Stage.place {e : Vec Ideal S8192x32 .f32} {x res sum : Vec Ideal S8x32x32x32 .f32} {d : Nat} (h : Stage e x res sum d)
    {D : Vec Ideal S8192x8192 .f32} {i : Vec Ideal S8192 .i32} (hD : D = distF e (rows res)) (hi : i = argF D) (n : Fin 8192) :
    i (ix1 n) = BitVec.ofNat 32 (code two (ent e) (ent (rows x) n) d).val := by
  rw [hi, argF_apply, hD]
  refine congrArg (fun k : Fin 8192 => BitVec.ofNat 32 k.val) ?_
  show near _ = near _
  refine congrArg near (funext fun k => ?_)
  rw [distF_apply, h.left]

/-- One step of the reference leads from one stage to the next. -/
theorem Stage.next {e : Vec Ideal S8192x32 .f32} {x res sum : Vec Ideal S8x32x32x32 .f32} {d : Nat} (h : Stage e x res sum d)
    {D : Vec Ideal S8192x8192 .f32} {i : Vec Ideal S8192 .i32} {q : Vec Ideal S8192x32 .f32} {res' sum' : Vec Ideal S8x32x32x32 .f32}
    (hD : D = distF e (rows res)) (hi : i = argF D) (hq : q = takeF e i)
    (hr : res' = subf (F := Ideal) (s := S8x32x32x32) (φ := .f32) res (unrows q))
    (ha : sum' = addf (F := Ideal) (s := S8x32x32x32) (φ := .f32) sum (unrows q)) : Stage e x res' sum' (d + 1) := by
  have hq' : ∀ n j, q (ix2 n j) = ent e (code two (ent e) (ent (rows x) n) d) j := fun n j => by
    rw [hq]; exact takeF_apply e i n _ j (h.place hD hi n)
  refine ⟨fun n => funext fun j => ?_, fun n => funext fun j => ?_⟩
  · have h1 : rows res (ix2 n j) = resid two (ent e) (ent (rows x) n) d j := congrFun (h.left n) j
    show rows res' (ix2 n j) = resid two (ent e) (ent (rows x) n) d j - ent e (code two (ent e) (ent (rows x) n) d) j
    rw [hr, rows_sub, hq', h1]
  · have h1 : rows sum (ix2 n j) = agg two (ent e) (ent (rows x) n) d j := congrFun (h.done n) j
    show rows sum' (ix2 n j) = agg two (ent e) (ent (rows x) n) d j + ent e (code two (ent e) (ent (rows x) n) d) j
    rw [ha, rows_add, hq', h1]

/-! ## The squared error -/

/-- The sum of all squared errors of an array is the sum over its rows. -/
theorem total_sum (x a : Vec Ideal S8x32x32x32 .f32) (i : S_.Idx) :
    Host.reduceAdd (mulf (F := Ideal) (s := S8x32x32x32) (φ := .f32) (subf (F := Ideal) (s := S8x32x32x32) (φ := .f32) x a) (subf (F := Ideal) (s := S8x32x32x32) (φ := .f32) x a)) (constant S_ .f32 0x00000000#32)
        reducesTo_S8x32x32x32_S_d0_1_2_3 h_S_ i
      = ∑ n : Fin 8192, ∑ j : Fin 32, (ent (rows x) n j - ent (rows a) n j) * (ent (rows x) n j - ent (rows a) n j) := by
  refine (Ideal.hostReduceAdd_total reducesTo_S8x32x32x32_S_d0_1_2_3 (fun b => b.elim0) _ _ i).trans ?_
  rw [show (constant (F := Ideal) S_ .f32 0x00000000#32) (Shape.Idx.first h_S_) = (0 : EReal) from Ideal.ofBits_zero_f32, zero_add]
  rw [← Equiv.sum_comp (Shape.reshapeEquiv shapeCasts_S8x32x32x32_S8192x32)]
  exact sum_idx2 _

/-- The mean squared error, from the sum of the squares. -/
def meanOf (t : EReal) : EReal :=
  Host.divf (F := Ideal) (s := S_) (φ := .f32) (fun _ => t) (constant S_ .f32 0x48800000#32) (Shape.Idx.first h_S_)

/-- A step's loss is the mean of the errors of the rows. -/
theorem lossF_apply {e : Vec Ideal S8192x32 .f32} {x res a : Vec Ideal S8x32x32x32 .f32} {d : Nat} (h : Stage e x res a d)
    (i : S_.Idx) : lossF x a i = meanOf (∑ n : Fin 8192, err two (ent e) (ent (rows x) n) d) := by
  have hs : (Host.reduceAdd (mulf (F := Ideal) (s := S8x32x32x32) (φ := .f32) (subf (F := Ideal) (s := S8x32x32x32) (φ := .f32) x a) (subf (F := Ideal) (s := S8x32x32x32) (φ := .f32) x a)) (constant S_ .f32 0x00000000#32)
        reducesTo_S8x32x32x32_S_d0_1_2_3 h_S_) = fun _ => ∑ n : Fin 8192, err two (ent e) (ent (rows x) n) d := by
    funext i
    rw [total_sum]
    refine Finset.sum_congr rfl fun n _ => ?_
    rw [h.done]; rfl
  unfold lossF
  rw [hs]
  rfl

/-! ## The codes -/

/-- The row of a place of the array. -/
def flat (p : Fin 8) (q r : Fin 32) : Fin 8192 := ⟨p.val * 1024 + q.val * 32 + r.val, by omega⟩

/-- Codes laid out as a column of the result. -/
theorem colF_apply (i : Vec Ideal S8192 .i32) (p : Fin 8) (q r : Fin 32) :
    colF (F := Ideal) i (ix4 p q r (0 : Fin 1)) = i (ix1 (flat p q r)) := by
  refine shapeCast_apply i shapeCasts_S8192_S8x32x32x1 (ix4 p q r (0 : Fin 1)) (ix1 (flat p q r)) ?_
  rw [Shape.rowMajor_val_one, Shape.rowMajor_val_four]
  show p.val * 1024 + q.val * 32 + r.val = ((p.val * 32 + q.val) * 32 + r.val) * 1 + 0
  omega

/-- The four columns side by side, read at a column. -/
theorem codesF_apply (a b c d : Vec Ideal S8x32x32x1 .i32) (p : Fin 8) (q r : Fin 32) (s : Fin 4) :
    codesF (F := Ideal) a b c d (ix4 p q r s) = (![a, b, c, d] s) (ix4 p q r (0 : Fin 1)) := by
  unfold codesF
  match s with
  | ⟨0, _⟩ =>
    refine (concatenate_apply_piece (t := S8x32x32x4) 3 [⟨S8x32x32x1, a⟩, ⟨S8x32x32x1, b⟩, ⟨S8x32x32x1, c⟩, ⟨S8x32x32x1, d⟩] concatenates_S8x32x32x1_S8x32x32x1_S8x32x32x1_S8x32x32x1_S8x32x32x4_d3 (ix4 p q r (0 : Fin 4)) 0 (by simp) S8x32x32x1 a rfl rfl 0 (by simp) (ix4 p q r (0 : Fin 1)) (fun b hb => ?_) rfl)
    match b with | ⟨0, _⟩ => rfl | ⟨1, _⟩ => rfl | ⟨2, _⟩ => rfl | ⟨3, _⟩ => exact absurd rfl hb
  | ⟨1, _⟩ =>
    refine (concatenate_apply_piece (t := S8x32x32x4) 3 [⟨S8x32x32x1, a⟩, ⟨S8x32x32x1, b⟩, ⟨S8x32x32x1, c⟩, ⟨S8x32x32x1, d⟩] concatenates_S8x32x32x1_S8x32x32x1_S8x32x32x1_S8x32x32x1_S8x32x32x4_d3 (ix4 p q r (1 : Fin 4)) 1 (by simp) S8x32x32x1 b rfl rfl 1 (by simp) (ix4 p q r (0 : Fin 1)) (fun b hb => ?_) rfl)
    match b with | ⟨0, _⟩ => rfl | ⟨1, _⟩ => rfl | ⟨2, _⟩ => rfl | ⟨3, _⟩ => exact absurd rfl hb
  | ⟨2, _⟩ =>
    refine (concatenate_apply_piece (t := S8x32x32x4) 3 [⟨S8x32x32x1, a⟩, ⟨S8x32x32x1, b⟩, ⟨S8x32x32x1, c⟩, ⟨S8x32x32x1, d⟩] concatenates_S8x32x32x1_S8x32x32x1_S8x32x32x1_S8x32x32x1_S8x32x32x4_d3 (ix4 p q r (2 : Fin 4)) 2 (by simp) S8x32x32x1 c rfl rfl 2 (by simp) (ix4 p q r (0 : Fin 1)) (fun b hb => ?_) rfl)
    match b with | ⟨0, _⟩ => rfl | ⟨1, _⟩ => rfl | ⟨2, _⟩ => rfl | ⟨3, _⟩ => exact absurd rfl hb
  | ⟨3, _⟩ =>
    refine (concatenate_apply_piece (t := S8x32x32x4) 3 [⟨S8x32x32x1, a⟩, ⟨S8x32x32x1, b⟩, ⟨S8x32x32x1, c⟩, ⟨S8x32x32x1, d⟩] concatenates_S8x32x32x1_S8x32x32x1_S8x32x32x1_S8x32x32x1_S8x32x32x4_d3 (ix4 p q r (3 : Fin 4)) 3 (by simp) S8x32x32x1 d rfl rfl 3 (by simp) (ix4 p q r (0 : Fin 1)) (fun b hb => ?_) rfl)
    match b with | ⟨0, _⟩ => rfl | ⟨1, _⟩ => rfl | ⟨2, _⟩ => rfl | ⟨3, _⟩ => exact absurd rfl hb

/-- Four lists of codes side by side are the array of codes. -/
theorem codes_arr {a b c d : Vec Ideal S8192 .i32} (k : Nat → Fin 8192 → Fin 8192)
    (ha : ∀ n, a (ix1 n) = BitVec.ofNat 32 (k 0 n).val) (hb : ∀ n, b (ix1 n) = BitVec.ofNat 32 (k 1 n).val)
    (hc : ∀ n, c (ix1 n) = BitVec.ofNat 32 (k 2 n).val) (hd : ∀ n, d (ix1 n) = BitVec.ofNat 32 (k 3 n).val) :
    codesF (F := Ideal) (colF (F := Ideal) a) (colF (F := Ideal) b) (colF (F := Ideal) c) (colF (F := Ideal) d)
      = fun i => BitVec.ofNat 32 (k (i 3).val (flat (i 0) (i 1) (i 2))).val := by
  funext i
  obtain ⟨p, q, r, s, rfl⟩ : ∃ (p : Fin 8) (q r : Fin 32) (s : Fin 4), i = ix4 p q r s := ⟨_, _, _, _, eq_ix4 i⟩
  rw [codesF_apply]
  match s with
  | ⟨0, _⟩ => exact (colF_apply a p q r).trans (ha _)
  | ⟨1, _⟩ => exact (colF_apply b p q r).trans (hb _)
  | ⟨2, _⟩ => exact (colF_apply c p q r).trans (hc _)
  | ⟨3, _⟩ => exact (colF_apply d p q r).trans (hd _)

/-! ## The mean -/

/-- Four numbers in a row, read at a place. -/
theorem four_apply (a b c d : Vec Ideal S_ .f32) (s : Fin 4) :
    concatenate S4 0 [⟨S1, broadcastInDim S1 ![] bcast_S_S1 a⟩, ⟨S1, broadcastInDim S1 ![] bcast_S_S1 b⟩,
      ⟨S1, broadcastInDim S1 ![] bcast_S_S1 c⟩, ⟨S1, broadcastInDim S1 ![] bcast_S_S1 d⟩] concatenates_S1_S1_S1_S1_S4_d0 (ix1 s)
      = (![a, b, c, d] s) (Shape.Idx.first h_S_) := by
  have hb : ∀ x : Vec Ideal S_ .f32, broadcastInDim S1 ![] bcast_S_S1 x (ix1 (0 : Fin 1)) = x (Shape.Idx.first h_S_) := fun x =>
    broadcastInDim_apply _ _ x _ _ (fun a => a.elim0)
  match s with
  | ⟨0, _⟩ =>
    refine (concatenate_apply_piece (t := S4) 0 [⟨S1, broadcastInDim S1 ![] bcast_S_S1 a⟩, ⟨S1, broadcastInDim S1 ![] bcast_S_S1 b⟩,
      ⟨S1, broadcastInDim S1 ![] bcast_S_S1 c⟩, ⟨S1, broadcastInDim S1 ![] bcast_S_S1 d⟩] concatenates_S1_S1_S1_S1_S4_d0 (ix1 (0 : Fin 4)) 0 (by simp) S1 _ rfl rfl 0 (by simp) (ix1 (0 : Fin 1)) (fun b hb => ?_) rfl).trans (hb a)
    match b with | ⟨0, _⟩ => exact absurd rfl hb
  | ⟨1, _⟩ =>
    refine (concatenate_apply_piece (t := S4) 0 [⟨S1, broadcastInDim S1 ![] bcast_S_S1 a⟩, ⟨S1, broadcastInDim S1 ![] bcast_S_S1 b⟩,
      ⟨S1, broadcastInDim S1 ![] bcast_S_S1 c⟩, ⟨S1, broadcastInDim S1 ![] bcast_S_S1 d⟩] concatenates_S1_S1_S1_S1_S4_d0 (ix1 (1 : Fin 4)) 1 (by simp) S1 _ rfl rfl 1 (by simp) (ix1 (0 : Fin 1)) (fun b hb => ?_) rfl).trans (hb b)
    match b with | ⟨0, _⟩ => exact absurd rfl hb
  | ⟨2, _⟩ =>
    refine (concatenate_apply_piece (t := S4) 0 [⟨S1, broadcastInDim S1 ![] bcast_S_S1 a⟩, ⟨S1, broadcastInDim S1 ![] bcast_S_S1 b⟩,
      ⟨S1, broadcastInDim S1 ![] bcast_S_S1 c⟩, ⟨S1, broadcastInDim S1 ![] bcast_S_S1 d⟩] concatenates_S1_S1_S1_S1_S4_d0 (ix1 (2 : Fin 4)) 2 (by simp) S1 _ rfl rfl 2 (by simp) (ix1 (0 : Fin 1)) (fun b hb => ?_) rfl).trans (hb c)
    match b with | ⟨0, _⟩ => exact absurd rfl hb
  | ⟨3, _⟩ =>
    refine (concatenate_apply_piece (t := S4) 0 [⟨S1, broadcastInDim S1 ![] bcast_S_S1 a⟩, ⟨S1, broadcastInDim S1 ![] bcast_S_S1 b⟩,
      ⟨S1, broadcastInDim S1 ![] bcast_S_S1 c⟩, ⟨S1, broadcastInDim S1 ![] bcast_S_S1 d⟩] concatenates_S1_S1_S1_S1_S4_d0 (ix1 (3 : Fin 4)) 3 (by simp) S1 _ rfl rfl 3 (by simp) (ix1 (0 : Fin 1)) (fun b hb => ?_) rfl).trans (hb d)
    match b with | ⟨0, _⟩ => exact absurd rfl hb

/-! ## The three results -/

/-- The four mean squared errors. -/
def errs (e : Vec Ideal S8192x32 .f32) (x : Vec Ideal S8x32x32x32 .f32) : Vec Ideal S4 .f32 := fun i =>
  meanOf (∑ n : Fin 8192, err two (ent e) (ent (rows x) n) ((i 0).val + 1))

/-- The first result: the array, and from it to the rows added up. -/
def outQ (e : Vec Ideal S8192x32 .f32) (x : Vec Ideal S8x32x32x32 .f32) : Vec Ideal S8x32x32x32 .f32 :=
  addf (F := Ideal) (s := S8x32x32x32) (φ := .f32) x (subf (F := Ideal) (s := S8x32x32x32) (φ := .f32)
    (unrows (F := Ideal) fun i => agg two (ent e) (ent (rows x) (i 0)) 4 (i 1)) x)
/-- The second result: the mean of the four mean squared errors. -/
def outL (e : Vec Ideal S8192x32 .f32) (x : Vec Ideal S8x32x32x32 .f32) : Vec Ideal S_ .f32 :=
  Host.divf (F := Ideal) (s := S_) (φ := .f32) (Host.reduceAdd (F := Ideal) (φ := .f32) (errs e x) (constant S_ .f32 0x00000000#32) reducesTo_S4_S_d0 h_S_)
    (constant S_ .f32 0x40800000#32)
/-- The third result: the codes. -/
def outC (e : Vec Ideal S8192x32 .f32) (x : Vec Ideal S8x32x32x32 .f32) : Vec Ideal S8x32x32x4 .i32 := fun i =>
  BitVec.ofNat 32 (code two (ent e) (ent (rows x) (flat (i 0) (i 1) (i 2))) (i 3).val).val

variable (V : Valuation τ sig (Elt Ideal))

/-- The state of the reference before the first step, and after each of the four. -/
theorem stage0 : Stage (at23 V main_v0) (at23 V main_arg0) (at23 V main_arg0) (at23 V main_v1) 0 := by
  refine ⟨fun n => rfl, fun n => funext fun j => ?_⟩
  rw [zero_eq]
  exact Ideal.ofBits_zero_f32
theorem stage1 : Stage (at23 V main_v0) (at23 V main_arg0) (at23 V main_v20) (at23 V main_v21) 1 :=
  (stage0 V).next (dist0_eq V) (idx0_eq V) (q0_eq V) (res1_eq V) (agg1_eq V)
theorem stage2 : Stage (at23 V main_v0) (at23 V main_arg0) (at23 V main_v41) (at23 V main_v42) 2 :=
  (stage1 V).next (dist1_eq V) (idx1_eq V) (q1_eq V) (res2_eq V) (agg2_eq V)
theorem stage3 : Stage (at23 V main_v0) (at23 V main_arg0) (at23 V main_v62) (at23 V main_v63) 3 :=
  (stage2 V).next (dist2_eq V) (idx2_eq V) (q2_eq V) (res3_eq V) (agg3_eq V)
theorem stage4 : Stage (at23 V main_v0) (at23 V main_arg0) (at23 V main_v83) (at23 V main_v84) 4 :=
  (stage3 V).next (dist3_eq V) (idx3_eq V) (q3_eq V) (res4_eq V) (agg4_eq V)

/-- The first result of the reference. -/
theorem quants_val : at23 V main_v111 = outQ (at23 V main_v0) (at23 V main_arg0) := by
  rw [quants_eq]
  have h : at23 V main_v84 = unrows fun i => agg two (ent (at23 V main_v0)) (ent (rows (at23 V main_arg0)) (i 0)) 4 (i 1) := by
    rw [← unrows_rows (at23 V main_v84)]
    refine congrArg unrows (funext fun i => ?_)
    conv_lhs => rw [eq_ix2 i]
    exact congrFun ((stage4 V).done (i 0)) (i 1)
  rw [h]
  rfl

/-- The third result of the reference. -/
theorem codes_val : at23 V main_v86 = outC (at23 V main_v0) (at23 V main_arg0) := by
  rw [codes_eq, col0_eq, col1_eq, col2_eq, col3_eq]
  exact codes_arr (fun s n => code two (ent (at23 V main_v0)) (ent (rows (at23 V main_arg0)) n) s)
    ((stage0 V).place (dist0_eq V) (idx0_eq V)) ((stage1 V).place (dist1_eq V) (idx1_eq V))
    ((stage2 V).place (dist2_eq V) (idx2_eq V)) ((stage3 V).place (dist3_eq V) (idx3_eq V))

/-- The second result of the reference. -/
theorem mean_val : at23 V main_v109 = outL (at23 V main_v0) (at23 V main_arg0) := by
  rw [mean_eq]
  have h : concatenate S4 0 [⟨S1, broadcastInDim S1 ![] bcast_S_S1 (at23 V main_v90)⟩, ⟨S1, broadcastInDim S1 ![] bcast_S_S1 (at23 V main_v94)⟩,
      ⟨S1, broadcastInDim S1 ![] bcast_S_S1 (at23 V main_v98)⟩, ⟨S1, broadcastInDim S1 ![] bcast_S_S1 (at23 V main_v102)⟩] concatenates_S1_S1_S1_S1_S4_d0
      = errs (at23 V main_v0) (at23 V main_arg0) := by
    funext i
    rw [eq_ix1 i]
    refine (four_apply (at23 V main_v90) (at23 V main_v94) (at23 V main_v98) (at23 V main_v102) (i 0)).trans ?_
    generalize i 0 = s
    match s with
    | ⟨0, _⟩ => exact (congrFun (loss0_eq V) _).trans (lossF_apply (stage1 V) _)
    | ⟨1, _⟩ => exact (congrFun (loss1_eq V) _).trans (lossF_apply (stage2 V) _)
    | ⟨2, _⟩ => exact (congrFun (loss2_eq V) _).trans (lossF_apply (stage3 V) _)
    | ⟨3, _⟩ => exact (congrFun (loss3_eq V) _).trans (lossF_apply (stage4 V) _)
  unfold meanF
  rw [h]
  rfl

end Cert.ReferenceIdeal.Run
-- ==== Proof.Tail.lean ====
/-
  The host lines after the kernel: the three results as functions of the arrays its points wrote.
-/
module

public import proofs.«01_k».proof.Proof.Arrays
public import proofs.«01_k».proof.Proof.RefChain

@[expose] public section

set_option maxRecDepth 16384

noncomputable section

open scoped BigOperators

namespace Cert.KernelIdeal.Entry

open Idealize.ShloMosaic hiding ix1 ix2 ix3 ix4 eq_ix1 eq_ix2 eq_ix3 eq_ix4
open Idealize.ShloMosaic.TcCoe Idealize.ShloMosaic.ValueIdx Idealize.ShloMosaic.StableHlo Idealize.SL.Sem
open Cert.KernelIdeal Cert.KernelIdeal.Gen Cert.RQ Cert.KernelIdeal.Steps
open Cert.ReferenceIdeal.Run (ent outQ outL outC)

/-! ## The lines -/

section Lines
variable {F : FTy → Type} [FloatOps F]

/-- The last step's sums, in the array's shape. -/
def lastF (s : Vec F S4x8192x32 .f32) : Vec F S8x32x32x32 .f32 :=
  shapeCast S8x32x32x32 (shapeCast S8192x32 (extractStridedSlice S1x8192x32 ![3, 0, 0] s slices_S4x8192x32_S1x8192x32_3_0_0)
    shapeCasts_S1x8192x32_S8192x32) shapeCasts_S8192x32_S8x32x32x32
/-- The mean squared error of each step, from the points' lanes. -/
def meansF (l : Vec F S64x1x128 .f32) : Vec F S4 .f32 :=
  Host.divf (Host.reduceAdd (shapeCast S64x4 (extractStridedSlice S64x1x4 ![0, 0, 0] l slices_S64x1x128_S64x1x4_0_0_0) shapeCasts_S64x1x4_S64x4)
      (constant S_ .f32 0x00000000#32) reducesTo_S64x4_S4_d0 h_S_)
    (broadcastInDim S4 ![] bcast_S_S4 (constant S_ .f32 0x48800000#32))

variable (W : Valuation τ sig (Elt F))

/-- The host code after the call: the straight-through result, -/
theorem tail_quants : after hostOps1 W main_v20 = addf (F := F) (s := S8x32x32x32) (φ := .f32) (W main_arg0)
    (subf (F := F) (s := S8x32x32x32) (φ := .f32) (lastF (W main_v8_0)) (W main_arg0)) := by
  simp only [hostOps1]; after_results; all_goals rfl
/-- the mean of the losses, -/
theorem tail_mean : after hostOps1 W main_v15 = Host.divf (F := F) (s := S_) (φ := .f32)
    (Host.reduceAdd (F := F) (φ := .f32) (meansF (W main_v8_2)) (constant S_ .f32 0x00000000#32) reducesTo_S4_S_d0 h_S_) (constant S_ .f32 0x40800000#32) := by
  simp only [hostOps1]; after_results; all_goals rfl
/-- and the codes in their final shape. -/
theorem tail_codes : after hostOps1 W main_v21 = shapeCast S8x32x32x4 (W main_v8_1 : Vec F S8192x4 .i32) shapeCasts_S8192x4_S8x32x32x4 := by
  simp only [hostOps1]; after_results; all_goals rfl

end Lines

/-! ## The lines read at an index -/

/-- The last aggregate, in the shape of the argument. -/
theorem last_eq (e z : Vec Ideal S8192x32 .f32) :
    lastF (sums e z) = Cert.ReferenceIdeal.Run.unrows (F := Ideal) fun i => agg two (ent e) (ent z (i 0)) 4 (i 1) := by
  refine congrArg (fun q : Vec Ideal S8192x32 .f32 => shapeCast S8x32x32x32 q shapeCasts_S8192x32_S8x32x32x32) (funext fun i => ?_)
  obtain ⟨n, j, rfl⟩ : ∃ (n : Fin 8192) (j : Fin 32), i = ix2 n j := ⟨_, _, eq_ix2 i⟩
  refine (shapeCast_apply _ _ (ix2 n j) (ix3 (0 : Fin 1) n j) ?_).trans ?_
  · rw [Shape.rowMajor_val_three, Shape.rowMajor_val_two]
    show (0 * 8192 + n.val) * 32 + j.val = n.val * 32 + j.val
    omega
  refine (extractStridedSlice_apply _ (sums e z) _ (ix3 (0 : Fin 1) n j) (ix3 (3 : Fin 4) n j) (fun a => ?_)).trans rfl
  match a with
  | ⟨0, _⟩ => rfl
  | ⟨1, _⟩ => show n.val = 0 + n.val; omega
  | ⟨2, _⟩ => show j.val = 0 + j.val; omega

/-- The codes in their final shape are the reference's. -/
theorem codes_eq (e : Vec Ideal S8192x32 .f32) (x : Vec Ideal S8x32x32x32 .f32) :
    shapeCast S8x32x32x4 (codes e (rows x)) shapeCasts_S8192x4_S8x32x32x4 = outC e x := by
  funext i
  obtain ⟨p, q, r, s, rfl⟩ : ∃ (p : Fin 8) (q r : Fin 32) (s : Fin 4), i = ix4 p q r s := ⟨_, _, _, _, eq_ix4 i⟩
  refine (shapeCast_apply _ _ (ix4 p q r s) (ix2 (Cert.ReferenceIdeal.Run.flat p q r) s) ?_).trans rfl
  rw [Shape.rowMajor_val_two, Shape.rowMajor_val_four]
  show (p.val * 1024 + q.val * 32 + r.val) * 4 + s.val = ((p.val * 32 + q.val) * 32 + r.val) * 4 + s.val
  omega

theorem reducesPoints : S64x4.Reduces [0] S4 := by decide

/-- The rows, tile by tile. -/
def tiles : Fin 64 × Fin 128 ≃ Fin 8192 where
  toFun p := ⟨p.1.val * 128 + p.2.val, by omega⟩
  invFun n := (⟨n.val / 128, by omega⟩, ⟨n.val % 128, by omega⟩)
  left_inv p := Prod.ext (Fin.ext (by show (p.1.val * 128 + p.2.val) / 128 = p.1.val; omega))
    (Fin.ext (by show (p.1.val * 128 + p.2.val) % 128 = p.2.val; omega))
  right_inv n := Fin.ext (by show n.val / 128 * 128 + n.val % 128 = n.val; omega)

variable (m : (ℓ : Loc nD τ sig) → Buf (Elt Ideal) ℓ) (c : Dev nD)

/-- The errors of a step added over the tiles are the errors added over all rows. -/
theorem lanes_sum (d : Fin 4) :
    Host.reduceAdd (F := Ideal) (φ := .f32) (shapeCast S64x4 (extractStridedSlice S64x1x4 ![0, 0, 0] (lanes m c) slices_S64x1x128_S64x1x4_0_0_0) shapeCasts_S64x1x4_S64x4)
      (constant S_ .f32 0x00000000#32) reducesTo_S64x4_S4_d0 h_S_ (ix1 d)
      = ∑ n : Fin 8192, err two (ent (table (arg1 m c))) (ent (rows (arg0 m c)) n) (d.val + 1) := by
  refine (Ideal.hostReduceAdd_single reducesTo_S64x4_S4_d0 reducesPoints _ _ (ix1 d)).trans ?_
  rw [show (constant (F := Ideal) S_ .f32 0x00000000#32) (Shape.Idx.first h_S_) = (0 : EReal) from Ideal.ofBits_zero_f32, zero_add,
    ← Equiv.sum_comp tiles, Fintype.sum_prod_type]
  refine Finset.sum_congr rfl fun t _ => ?_
  have hl : reducesPoints.lift (ix1 d) t = ix2 (t : Fin 64) d := by
    funext a
    match a with
    | ⟨0, _⟩ => rfl
    | ⟨1, _⟩ => rfl
  rw [hl]
  refine (shapeCast_apply _ _ (ix2 (t : Fin 64) d) (ix3 (t : Fin 64) (0 : Fin 1) d) ?_).trans ?_
  · rw [Shape.rowMajor_val_three, Shape.rowMajor_val_two]
    show (t.val * 1 + 0) * 4 + d.val = t.val * 4 + d.val
    omega
  refine (extractStridedSlice_apply _ (lanes m c) _ (ix3 (t : Fin 64) (0 : Fin 1) d) (ix3 t 0 ⟨d.val, by have := d.isLt; omega⟩) (fun a => ?_)).trans ?_
  · match a with
    | ⟨0, _⟩ => show t.val = 0 + t.val; omega
    | ⟨1, _⟩ => rfl
    | ⟨2, _⟩ => show d.val = 0 + d.val; omega
  exact lanes_at m c t d

/-- The kernel's division by the number of entries is the reference's mean. -/
theorem div_at (T : Vec Ideal S4 .f32) (d : Fin 4) :
    Host.divf (F := Ideal) (s := S4) (φ := .f32) T (broadcastInDim S4 ![] bcast_S_S4 (constant S_ .f32 0x48800000#32)) (ix1 d)
      = Cert.ReferenceIdeal.Run.meanOf (T (ix1 d)) := rfl

/-- The reference's loss of a step is the mean of the errors of the rows. -/
theorem errs_at (e : Vec Ideal S8192x32 .f32) (x : Vec Ideal S8x32x32x32 .f32) (d : Fin 4) :
    Cert.ReferenceIdeal.Run.errs e x (ix1 d)
      = Cert.ReferenceIdeal.Run.meanOf (∑ n : Fin 8192, err two (ent e) (ent (rows x) n) (d.val + 1)) := rfl

/-- The losses of the four steps are the same in both programs. -/
theorem means_eq : meansF (lanes m c) = Cert.ReferenceIdeal.Run.errs (table (arg1 m c)) (arg0 m c) := by
  funext i
  obtain ⟨d, rfl⟩ : ∃ d : Fin 4, i = ix1 d := ⟨_, eq_ix1 i⟩
  rw [errs_at, ← lanes_sum m c d]
  exact div_at _ d

/-! ## The results -/

/-- The contents the host lines start from. -/
abbrev exitV : Valuation τ sig (Elt Ideal) := Pipeline.withArrays spec0 c (V0 m c) fun w => (dats m 0 c).arrAt w cfg0.N

/-- The operands of the call are distinct arrays. -/
theorem arr_inj : Function.Injective (Pipeline.arrRef spec0) := by decide

/-- What the call leaves: the aggregates, -/
theorem exit0 : exitV m c main_v8_0 = sums (table (arg1 m c)) (rows (arg0 m c)) :=
  (Pipeline.withArrays_arr spec0 arr_inj c _ _ 4).trans (arr4 m c)
/-- the codes, -/
theorem exit1 : exitV m c main_v8_1 = codes (table (arg1 m c)) (rows (arg0 m c)) :=
  (Pipeline.withArrays_arr spec0 arr_inj c _ _ 5).trans (arr5 m c)
/-- the summed errors, -/
theorem exit2 : exitV m c main_v8_2 = lanes m c :=
  (Pipeline.withArrays_arr spec0 arr_inj c _ _ 6).trans (arr6 m c)
/-- and the first argument as it was. -/
theorem exit_arg0 : exitV m c main_arg0 = arg0 m c :=
  (Pipeline.withArrays_of_ne _ c (V0 m c) _ main_arg0 (by exact (by decide : ∀ w, Pipeline.arrRef spec0 w ≠ main_arg0))).trans (V_main_arg0 m c)

/-- The contents at the end are those after the call, run through the host code. -/
theorem tail_unfold (b : Ref sig .tc) :
    Pipeline.afterTail₀ cfgs (dats m) 0 (V0 m) [hostOps1] c b = after hostOps1 (exitV m c) (Proc.devRef .tc b) := by
  unfold Pipeline.afterTail₀
  rw [List.flatten_cons, List.flatten_nil, List.append_nil]

/-- The first result of the kernel. -/
theorem quants_end : Pipeline.afterTail₀ cfgs (dats m) 0 (V0 m) [hostOps1] c main_v20 = outQ (table (arg1 m c)) (arg0 m c) := by
  rw [tail_unfold, tail_quants, exit0, exit_arg0, last_eq]
  rfl
/-- The second result of the kernel. -/
theorem mean_end : Pipeline.afterTail₀ cfgs (dats m) 0 (V0 m) [hostOps1] c main_v15 = outL (table (arg1 m c)) (arg0 m c) := by
  rw [tail_unfold, tail_mean, exit2, means_eq]
  rfl
/-- The third result of the kernel. -/
theorem codes_end : Pipeline.afterTail₀ cfgs (dats m) 0 (V0 m) [hostOps1] c main_v21 = outC (table (arg1 m c)) (arg0 m c) := by
  rw [tail_unfold, tail_codes, exit1]
  exact codes_eq _ _

end Cert.KernelIdeal.Entry
-- ==== Proof.Ends.lean ====
/-
  How the two programs end: every result as a function of the arguments, the arguments unchanged.
-/
module

public import proofs.«01_k».proof.Proof.Tail
public import proofs.«01_k».proof.Defs
public import Idealize.ShloMosaic.Adequacy
public import Idealize.ShloMosaic.Init

@[expose] public section

set_option maxRecDepth 16384

noncomputable section

namespace Cert.ReferenceIdeal.Run

open Idealize.ShloMosaic Idealize.ShloMosaic.TcCoe Idealize.ShloMosaic.StableHlo Idealize.SL.Sem
open Cert.ReferenceIdeal Cert.ReferenceIdeal.Gen

variable (m : (ℓ : Loc nD τ sig) → Buf (Elt Ideal) ℓ) (ρ : Dev nD → PrngReg)

/-- The two arguments of the reference. -/
abbrev arr0 (c : Dev nD) : Vec Ideal S8x32x32x32 .f32 := m ((c.tc : Thread nD τ).loc main_arg0)
abbrev arr1 (c : Dev nD) : Vec Ideal S8193x32 .f32 := m ((c.tc : Thread nD τ).loc main_arg1)

/-- The reference leaves its first argument as it was. -/
theorem end_arg0 (c : Dev nD) : at23 (launchContents m c) main_arg0 = arr0 m c := main_arg0_eq _
/-- The reference leaves its second argument as it was. -/
theorem end_arg1 (c : Dev nD) : at23 (launchContents m c) main_arg1 = arr1 m c := main_arg1_eq _
/-- The reference's table is the codebook without its last row. -/
theorem end_table (c : Dev nD) : at23 (launchContents m c) main_v0 = table (arr1 m c) := by
  rw [table_eq, end_arg1]

/-- The reference ends with its three results, as functions of its arguments, and with the arguments as they were. -/
theorem ends : θ_run (defs (F := Ideal)) (onTc (τ := τ) (main (F := Ideal))) ⟨m, fun _ => 0, ρ⟩ fun r => ∀ c : Dev nD,
    r.2.mem ((c.tc : Thread nD τ).loc main_v111) = outQ (table (arr1 m c)) (arr0 m c)
    ∧ r.2.mem ((c.tc : Thread nD τ).loc main_v109) = outL (table (arr1 m c)) (arr0 m c)
    ∧ r.2.mem ((c.tc : Thread nD τ).loc main_v86) = outC (table (arr1 m c)) (arr0 m c)
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun r h c => by
    have e : ∀ b, r.2.mem ((c.tc : Thread nD τ).loc b) = at23 (launchContents m c) (Proc.devRef .tc b) := fun b =>
      (h c b).trans (congrFun (after_ops _) _)
    refine ⟨(e _).trans ?_, (e _).trans ?_, (e _).trans ?_, (e _).trans (end_arg0 m c), (e _).trans (end_arg1 m c)⟩
    · rw [quants_val, end_table, end_arg0]
    · rw [mean_val, end_table, end_arg0]
    · rw [codes_val, end_table, end_arg0]) (run m ρ)

end Cert.ReferenceIdeal.Run

namespace Cert.KernelIdeal.Entry

open Idealize.ShloMosaic hiding ix1 ix2 ix3 ix4 eq_ix1 eq_ix2 eq_ix3 eq_ix4
open Idealize.ShloMosaic.TcCoe Idealize.SL.Sem
open Cert.KernelIdeal Cert.KernelIdeal.Gen
open Cert.ReferenceIdeal.Run (outQ outL outC)

variable (m : (ℓ : Loc nD τ sig) → Buf (Elt Ideal) ℓ) (ρ : Dev nD → PrngReg)

/-- The kernel ends with the same three functions of its arguments, and with the arguments as they were. -/
theorem ends : θ_run (defs (F := Ideal)) (onTc (τ := τ) (main (F := Ideal))) ⟨m, fun _ => 0, ρ⟩ fun r => ∀ c : Dev nD,
    r.2.mem ((c.tc : Thread nD τ).loc main_v20) = outQ (table (arg1 m c)) (arg0 m c)
    ∧ r.2.mem ((c.tc : Thread nD τ).loc main_v15) = outL (table (arg1 m c)) (arg0 m c)
    ∧ r.2.mem ((c.tc : Thread nD τ).loc main_v21) = outC (table (arg1 m c)) (arg0 m c)
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun r h c =>
    ⟨((h c).2 main_v20 (Pipeline.mem_restRefs_of main_v20 (by decide) (by decide))).trans (quants_end m c),
      ((h c).2 main_v15 (Pipeline.mem_restRefs_of main_v15 (by decide) (by decide))).trans (mean_end m c),
      ((h c).2 main_v21 (Pipeline.mem_restRefs_of main_v21 (by decide) (by decide))).trans (codes_end m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Entry
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Ends
public import Idealize.ShloMosaic.Adequacy
public import Idealize.ShloMosaic.Init

@[expose] public section

noncomputable section

namespace Cert.Proof

open Idealize.ShloMosaic Idealize.SL.Sem Cert.Kernel

/-- The reference ends with its arguments unchanged; it declares no semaphore. -/
theorem frame_r : Cert.quiescent_ReferenceIdeal (hReferenceIdeal := Cert.ReferenceIdeal.Gen.facts) := by
  intro m g _
  exact (θ_run Cert.ReferenceIdeal.defs _ _).mono (fun r h => ⟨fun c => ⟨(h c).2.2.2.1, (h c).2.2.2.2⟩,
    sem_eq_zero_of_no_sems (by decide) r.2⟩) (Cert.ReferenceIdeal.Run.ends m g)

/-- The kernel and the reference end with the same three results: each is the same function of the arguments. -/
theorem values : Cert.algebraic_KernelIdeal_ReferenceIdeal (hKernelIdeal := Cert.KernelIdeal.Gen.facts)
    (hReferenceIdeal := Cert.ReferenceIdeal.Gen.facts) := by
  intro m g m' g' _ hagree
  refine ⟨fun c => Cert.ReferenceIdeal.Run.outQ (Cert.KernelIdeal.Entry.table (Cert.KernelIdeal.Entry.arg1 m c)) (Cert.KernelIdeal.Entry.arg0 m c),
    fun c => Cert.ReferenceIdeal.Run.outL (Cert.KernelIdeal.Entry.table (Cert.KernelIdeal.Entry.arg1 m c)) (Cert.KernelIdeal.Entry.arg0 m c),
    fun c => Cert.ReferenceIdeal.Run.outC (Cert.KernelIdeal.Entry.table (Cert.KernelIdeal.Entry.arg1 m c)) (Cert.KernelIdeal.Entry.arg0 m c),
    Cert.KernelIdeal.Entry.ends m g, (θ_run Cert.ReferenceIdeal.defs _ _).mono (fun r h c => ?_) (Cert.ReferenceIdeal.Run.ends m' g')⟩
  have h0 : Cert.ReferenceIdeal.Run.arr0 m' c = Cert.KernelIdeal.Entry.arg0 m c := (hagree c).1
  have h1 : Cert.ReferenceIdeal.Run.arr1 m' c = Cert.KernelIdeal.Entry.arg1 m c := (hagree c).2
  have hq := h c
  rw [h0, h1] at hq
  exact hq

/-- The claims of the certificate, all together. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, frame_r, trivial, values⟩

end Cert.Proof

end
